-- ==== Defs.lean ====
def Pre_Kernel [hPre_ids_nonnegative : Cert.Pre_ids_nonnegative.Facts] (m : (ℓ : Loc Cert.Kernel.nD Cert.Kernel.τ Cert.Kernel.sig) → Buf (Elt Bits) ℓ) : Prop :=
  ∀ c : Dev Cert.Kernel.nD,
    (Cert.Pre_ids_nonnegative.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_ids_nonnegative : Cert.Pre_ids_nonnegative.Facts] (m : (ℓ : Loc Cert.KernelIdeal.nD Cert.KernelIdeal.τ Cert.KernelIdeal.sig) → Buf (Elt Ideal) ℓ) : Prop :=
  ∀ c : Dev Cert.KernelIdeal.nD,
    (Cert.Pre_ids_nonnegative.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_ids_nonnegative : Cert.Pre_ids_nonnegative.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_nonnegative.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def quiescent_Kernel [hKernel : Cert.Kernel.Facts] [hPre_ids_nonnegative : Cert.Pre_ids_nonnegative.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] [hPre_ids_nonnegative : Cert.Pre_ids_nonnegative.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] [hPre_ids_nonnegative : Cert.Pre_ids_nonnegative.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_ids_nonnegative : Cert.Pre_ids_nonnegative.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_ids_nonnegative : Cert.Pre_ids_nonnegative.Facts),
    quiescent_Kernel (hKernel := hKernel) (hPre_ids_nonnegative := hPre_ids_nonnegative)
    ∧ quiescent_KernelIdeal (hKernelIdeal := hKernelIdeal) (hPre_ids_nonnegative := hPre_ids_nonnegative)
    ∧ quiescent_ReferenceIdeal (hReferenceIdeal := hReferenceIdeal) (hPre_ids_nonnegative := hPre_ids_nonnegative)
    ∧ preserves_Kernel_KernelIdeal
    ∧ algebraic_KernelIdeal_ReferenceIdeal (hKernelIdeal := hKernelIdeal) (hReferenceIdeal := hReferenceIdeal) (hPre_ids_nonnegative := hPre_ids_nonnegative)
-- ==== Pre_ids_nonnegative.lean ====
abbrev S50000x256 : Shape := ⟨2, ![50000, 256]⟩
abbrev S50000 : Shape := ⟨1, ![50000]⟩
abbrev S256x256 : Shape := ⟨2, ![256, 256]⟩
abbrev S256 : Shape := ⟨1, ![256]⟩
abbrev S256x1 : Shape := ⟨2, ![256, 1]⟩
abbrev S1 : Shape := ⟨1, ![1]⟩
abbrev S512x256 : Shape := ⟨2, ![512, 256]⟩
abbrev S256x128 : Shape := ⟨2, ![256, 128]⟩
abbrev S128 : Shape := ⟨1, ![128]⟩
abbrev S_ : Shape := ⟨0, ![]⟩

class Facts : Prop where
  bcast_S_S50000 : S_.BroadcastsInDim S50000 (![] : Fin 0 → Fin S50000.rank)
  reducesTo_S50000_S_d0 : S50000.ReducesTo [0] S_
  h_S_ : 0 < S_.numel

variable [Facts]

def fn {F : FTy → Type} [FloatOps F] (main_arg0 : FVec F S50000x256 .f32) (main_arg1 : IVec S50000 32) (main_arg2 : FVec F S50000x256 .f32) (main_arg3 : IVec S50000 32) (main_arg4 : FVec F S256x256 .f32) (main_arg5 : FVec F S256 .f32) (main_arg6 : FVec F S256x256 .f32) (main_arg7 : FVec F S256 .f32) (main_arg8 : FVec F S256x1 .f32) (main_arg9 : FVec F S1 .f32) (main_arg10 : FVec F S512x256 .f32) (main_arg11 : FVec F S256 .f32) (main_arg12 : FVec F S256x256 .f32) (main_arg13 : FVec F S256 .f32) (main_arg14 : FVec F S256x128 .f32) (main_arg15 : FVec F S128 .f32) : IVec S_ 1 :=
  let main_c : IVec S_ 32 := constantI S_ 32 0#32
  let main_v0 : IVec S50000 32 := broadcastInDim S50000 ![] bcast_S_S50000 main_c
  let main_v1 : IVec S50000 1 := cmpi .sge main_arg1 main_v0
  let main_c_0 : IVec S_ 1 := constantI S_ 1 1#1
  let main_v2 : IVec S_ 1 := (fun x v => Host.reduce IntOp.andi x v reducesTo_S50000_S_d0 h_S_) main_v1 main_c_0
  let main_c_1 : IVec S_ 32 := constantI S_ 32 0#32
  let main_v3 : IVec S50000 32 := broadcastInDim S50000 ![] bcast_S_S50000 main_c_1
  let main_v4 : IVec S50000 1 := cmpi .sge main_arg3 main_v3
  let main_c_2 : IVec S_ 1 := constantI S_ 1 1#1
  let main_v5 : IVec S_ 1 := (fun x v => Host.reduce IntOp.andi x v reducesTo_S50000_S_d0 h_S_) main_v4 main_c_2
  let main_v6 : IVec S_ 1 := andi main_v2 main_v5
  main_v6
-- ==== Kernel.lean ====
abbrev S50000x256 : Shape := ⟨2, ![50000, 256]⟩
abbrev S50000 : Shape := ⟨1, ![50000]⟩
abbrev S256x256 : Shape := ⟨2, ![256, 256]⟩
abbrev S256 : Shape := ⟨1, ![256]⟩
abbrev S256x1 : Shape := ⟨2, ![256, 1]⟩
abbrev S1 : Shape := ⟨1, ![1]⟩
abbrev S512x256 : Shape := ⟨2, ![512, 256]⟩
abbrev S256x128 : Shape := ⟨2, ![256, 128]⟩
abbrev S128 : Shape := ⟨1, ![128]⟩
abbrev S10x1x5000 : Shape := ⟨3, ![10, 1, 5000]⟩
abbrev S10x5000 : Shape := ⟨2, ![10, 5000]⟩
abbrev S_ : Shape := ⟨0, ![]⟩
abbrev S10 : Shape := ⟨1, ![10]⟩
abbrev S10x1 : Shape := ⟨2, ![10, 1]⟩
abbrev S1x256 : Shape := ⟨2, ![1, 256]⟩
abbrev S1x1 : Shape := ⟨2, ![1, 1]⟩
abbrev S1x128 : Shape := ⟨2, ![1, 128]⟩
abbrev S512x128 : Shape := ⟨2, ![512, 128]⟩
abbrev S5000x256 : Shape := ⟨2, ![5000, 256]⟩
abbrev S1x1x5000 : Shape := ⟨3, ![1, 1, 5000]⟩
abbrev S5000 : Shape := ⟨1, ![5000]⟩
abbrev S5000x1 : Shape := ⟨2, ![5000, 1]⟩
abbrev S1x5000 : Shape := ⟨2, ![1, 5000]⟩
abbrev S64x5000 : Shape := ⟨2, ![64, 5000]⟩
abbrev S64x256 : Shape := ⟨2, ![64, 256]⟩
abbrev S64 : Shape := ⟨1, ![64]⟩
abbrev S64x1 : Shape := ⟨2, ![64, 1]⟩
abbrev S64x128 : Shape := ⟨2, ![64, 128]⟩
abbrev S512x5000 : Shape := ⟨2, ![512, 5000]⟩
abbrev S512 : Shape := ⟨1, ![512]⟩
abbrev S512x1 : Shape := ⟨2, ![512, 1]⟩

abbrev nBuf : Space → Nat
  | .hbm => 96
  | .vmem => 25
  | .smem => 4
  | _ => 0

abbrev bufTy : (tb : Table) → Fin (tcTables nBuf tb) → BufTy
  | .hbm, ⟨0, _⟩ => ⟨S50000x256, .f32⟩
  | .hbm, ⟨1, _⟩ => ⟨S50000, .i32⟩
  | .hbm, ⟨2, _⟩ => ⟨S50000x256, .f32⟩
  | .hbm, ⟨3, _⟩ => ⟨S50000, .i32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x1, .f32⟩
  | .hbm, ⟨9, _⟩ => ⟨S1, .f32⟩
  | .hbm, ⟨10, _⟩ => ⟨S512x256, .f32⟩
  | .hbm, ⟨11, _⟩ => ⟨S256, .f32⟩
  | .hbm, ⟨12, _⟩ => ⟨S256x256, .f32⟩
  | .hbm, ⟨13, _⟩ => ⟨S256, .f32⟩
  | .hbm, ⟨14, _⟩ => ⟨S256x128, .f32⟩
  | .hbm, ⟨15, _⟩ => ⟨S128, .f32⟩
  | .hbm, ⟨16, _⟩ => ⟨S10x1x5000, .i32⟩
  | .hbm, ⟨17, _⟩ => ⟨S10x1x5000, .i32⟩
  | .hbm, ⟨18, _⟩ => ⟨S10x5000, .i32⟩
  | .hbm, ⟨19, _⟩ => ⟨S_, .i32⟩
  | .hbm, ⟨20, _⟩ => ⟨S10, .i32⟩
  | .hbm, ⟨21, _⟩ => ⟨S_, .i32⟩
  | .hbm, ⟨22, _⟩ => ⟨S_, .i32⟩
  | .hbm, ⟨23, _⟩ => ⟨S10, .i32⟩
  | .hbm, ⟨24, _⟩ => ⟨S10, .i32⟩
  | .hbm, ⟨25, _⟩ => ⟨S10, .i32⟩
  | .hbm, ⟨26, _⟩ => ⟨S_, .i32⟩
  | .hbm, ⟨27, _⟩ => ⟨S10, .i32⟩
  | .hbm, ⟨28, _⟩ => ⟨S10, .i1⟩
  | .hbm, ⟨29, _⟩ => ⟨S10, .i32⟩
  | .hbm, ⟨30, _⟩ => ⟨S10, .i32⟩
  | .hbm, ⟨31, _⟩ => ⟨S_, .i32⟩
  | .hbm, ⟨32, _⟩ => ⟨S10, .i32⟩
  | .hbm, ⟨33, _⟩ => ⟨S10, .i1⟩
  | .hbm, ⟨34, _⟩ => ⟨S10, .i1⟩
  | .hbm, ⟨35, _⟩ => ⟨S_, .i32⟩
  | .hbm, ⟨36, _⟩ => ⟨S10, .i32⟩
  | .hbm, ⟨37, _⟩ => ⟨S10, .i32⟩
  | .hbm, ⟨38, _⟩ => ⟨S10, .i32⟩
  | .hbm, ⟨39, _⟩ => ⟨S_, .i32⟩
  | .hbm, ⟨40, _⟩ => ⟨S10, .i32⟩
  | .hbm, ⟨41, _⟩ => ⟨S10, .i32⟩
  | .hbm, ⟨42, _⟩ => ⟨S_, .i32⟩
  | .hbm, ⟨43, _⟩ => ⟨S10, .i32⟩
  | .hbm, ⟨44, _⟩ => ⟨S10x1, .i32⟩
  | .hbm, ⟨45, _⟩ => ⟨S10x5000, .i32⟩
  | .hbm, ⟨46, _⟩ => ⟨S10x5000, .i32⟩
  | .hbm, ⟨47, _⟩ => ⟨S_, .i32⟩
  | .hbm, ⟨48, _⟩ => ⟨S10x5000, .i32⟩
  | .hbm, ⟨49, _⟩ => ⟨S10x5000, .i1⟩
  | .hbm, ⟨50, _⟩ => ⟨S10x5000, .i32⟩
  | .hbm, ⟨51, _⟩ => ⟨S_, .i32⟩
  | .hbm, ⟨52, _⟩ => ⟨S10x5000, .i32⟩
  | .hbm, ⟨53, _⟩ => ⟨S_, .i32⟩
  | .hbm, ⟨54, _⟩ => ⟨S10, .i32⟩
  | .hbm, ⟨55, _⟩ => ⟨S_, .i32⟩
  | .hbm, ⟨56, _⟩ => ⟨S_, .i32⟩
  | .hbm, ⟨57, _⟩ => ⟨S10, .i32⟩
  | .hbm, ⟨58, _⟩ => ⟨S10, .i32⟩
  | .hbm, ⟨59, _⟩ => ⟨S10, .i32⟩
  | .hbm, ⟨60, _⟩ => ⟨S_, .i32⟩
  | .hbm, ⟨61, _⟩ => ⟨S10, .i32⟩
  | .hbm, ⟨62, _⟩ => ⟨S10, .i1⟩
  | .hbm, ⟨63, _⟩ => ⟨S10, .i32⟩
  | .hbm, ⟨64, _⟩ => ⟨S10, .i32⟩
  | .hbm, ⟨65, _⟩ => ⟨S_, .i32⟩
  | .hbm, ⟨66, _⟩ => ⟨S10, .i32⟩
  | .hbm, ⟨67, _⟩ => ⟨S10, .i1⟩
  | .hbm, ⟨68, _⟩ => ⟨S10, .i1⟩
  | .hbm, ⟨69, _⟩ => ⟨S_, .i32⟩
  | .hbm, ⟨70, _⟩ => ⟨S10, .i32⟩
  | .hbm, ⟨71, _⟩ => ⟨S10, .i32⟩
  | .hbm, ⟨72, _⟩ => ⟨S10, .i32⟩
  | .hbm, ⟨73, _⟩ => ⟨S_, .i32⟩
  | .hbm, ⟨74, _⟩ => ⟨S10, .i32⟩
  | .hbm, ⟨75, _⟩ => ⟨S10, .i32⟩
  | .hbm, ⟨76, _⟩ => ⟨S_, .i32⟩
  | .hbm, ⟨77, _⟩ => ⟨S10, .i32⟩
  | .hbm, ⟨78, _⟩ => ⟨S10x1, .i32⟩
  | .hbm, ⟨79, _⟩ => ⟨S10x5000, .i32⟩
  | .hbm, ⟨80, _⟩ => ⟨S10x5000, .i32⟩
  | .hbm, ⟨81, _⟩ => ⟨S_, .i32⟩
  | .hbm, ⟨82, _⟩ => ⟨S10x5000, .i32⟩
  | .hbm, ⟨83, _⟩ => ⟨S10x5000, .i1⟩
  | .hbm, ⟨84, _⟩ => ⟨S10x5000, .i32⟩
  | .hbm, ⟨85, _⟩ => ⟨S_, .i32⟩
  | .hbm, ⟨86, _⟩ => ⟨S256x256, .bf16⟩
  | .hbm, ⟨87, _⟩ => ⟨S1x256, .f32⟩
  | .hbm, ⟨88, _⟩ => ⟨S256x256, .bf16⟩
  | .hbm, ⟨89, _⟩ => ⟨S1x256, .f32⟩
  | .hbm, ⟨90, _⟩ => ⟨S1x256, .f32⟩
  | .hbm, ⟨91, _⟩ => ⟨S1x1, .f32⟩
  | .hbm, ⟨92, _⟩ => ⟨S1x256, .f32⟩
  | .hbm, ⟨93, _⟩ => ⟨S1x256, .f32⟩
  | .hbm, ⟨94, _⟩ => ⟨S1x128, .f32⟩
  | .hbm, ⟨95, _⟩ => ⟨S512x128, .f32⟩
  | .local _ .vmem, ⟨0, _⟩ => ⟨S5000x256, .f32⟩
  | .local _ .vmem, ⟨1, _⟩ => ⟨S5000x256, .f32⟩
  | .local _ .vmem, ⟨2, _⟩ => ⟨S1x1x5000, .i32⟩
  | .local _ .vmem, ⟨3, _⟩ => ⟨S1x1x5000, .i32⟩
  | .local _ .vmem, ⟨4, _⟩ => ⟨S5000x256, .f32⟩
  | .local _ .vmem, ⟨5, _⟩ => ⟨S5000x256, .f32⟩
  | .local _ .vmem, ⟨6, _⟩ => ⟨S1x1x5000, .i32⟩
  | .local _ .vmem, ⟨7, _⟩ => ⟨S1x1x5000, .i32⟩
  | .local _ .vmem, ⟨8, _⟩ => ⟨S256x256, .bf16⟩
  | .local _ .vmem, ⟨9, _⟩ => ⟨S1x256, .f32⟩
  | .local _ .vmem, ⟨10, _⟩ => ⟨S256x256, .bf16⟩
  | .local _ .vmem, ⟨11, _⟩ => ⟨S1x256, .f32⟩
  | .local _ .vmem, ⟨12, _⟩ => ⟨S1x256, .f32⟩
  | .local _ .vmem, ⟨13, _⟩ => ⟨S1x1, .f32⟩
  | .local _ .vmem, ⟨14, _⟩ => ⟨S512x256, .f32⟩
  | .local _ .vmem, ⟨15, _⟩ => ⟨S1x256, .f32⟩
  | .local _ .vmem, ⟨16, _⟩ => ⟨S256x256, .f32⟩
  | .local _ .vmem, ⟨17, _⟩ => ⟨S1x256, .f32⟩
  | .local _ .vmem, ⟨18, _⟩ => ⟨S256x128, .f32⟩
  | .local _ .vmem, ⟨19, _⟩ => ⟨S1x128, .f32⟩
  | .local _ .vmem, ⟨20, _⟩ => ⟨S512x128, .f32⟩
  | .local _ .vmem, ⟨21, _⟩ => ⟨S512x256, .f32⟩
  | .local _ .vmem, ⟨22, _⟩ => ⟨S512x128, .f32⟩
  | .local _ .vmem, ⟨23, _⟩ => ⟨S512x256, .f32⟩
  | .local _ .vmem, ⟨24, _⟩ => ⟨S512x128, .f32⟩
  | .local _ .smem, ⟨0, _⟩ => ⟨S10, .i32⟩
  | .local _ .smem, ⟨1, _⟩ => ⟨S10, .i32⟩
  | .local _ .smem, ⟨2, _⟩ => ⟨S10, .i32⟩
  | .local _ .smem, ⟨3, _⟩ => ⟨S10, .i32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_c : Ref sig .tc := ⟨.hbm, 19, rfl⟩
abbrev main_call0_v3 : Ref sig .tc := ⟨.hbm, 20, rfl⟩
abbrev main_call0_c_0 : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_v2 : Ref sig .tc := ⟨.hbm, 24, rfl⟩
abbrev main_call0_call0_v3 : Ref sig .tc := ⟨.hbm, 25, rfl⟩
abbrev main_call0_call0_v4 : Ref sig .tc := ⟨.hbm, 26, rfl⟩
abbrev main_call0_call0_v5 : Ref sig .tc := ⟨.hbm, 27, rfl⟩
abbrev main_call0_call0_v6 : Ref sig .tc := ⟨.hbm, 28, rfl⟩
abbrev main_call0_call0_v7 : Ref sig .tc := ⟨.hbm, 29, rfl⟩
abbrev main_call0_call0_v8 : Ref sig .tc := ⟨.hbm, 30, rfl⟩
abbrev main_call0_call0_c : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_call0_c_0 : Ref sig .tc := ⟨.hbm, 35, rfl⟩
abbrev main_call0_call0_v12 : Ref sig .tc := ⟨.hbm, 36, rfl⟩
abbrev main_call0_call0_v13 : Ref sig .tc := ⟨.hbm, 37, rfl⟩
abbrev main_call0_v4 : Ref sig .tc := ⟨.hbm, 38, rfl⟩
abbrev main_call0_c_1 : Ref sig .tc := ⟨.hbm, 39, rfl⟩
abbrev main_call0_v5 : Ref sig .tc := ⟨.hbm, 40, rfl⟩
abbrev main_call0_v6 : Ref sig .tc := ⟨.hbm, 41, rfl⟩
abbrev main_call0_c_2 : Ref sig .tc := ⟨.hbm, 42, rfl⟩
abbrev main_call0_v7 : Ref sig .tc := ⟨.hbm, 43, rfl⟩
abbrev main_call0_v9 : Ref sig .tc := ⟨.hbm, 44, rfl⟩
abbrev main_call0_v10 : Ref sig .tc := ⟨.hbm, 45, rfl⟩
abbrev main_call0_v11 : Ref sig .tc := ⟨.hbm, 46, rfl⟩
abbrev main_call0_c_3 : Ref sig .tc := ⟨.hbm, 47, rfl⟩
abbrev main_call0_v12 : Ref sig .tc := ⟨.hbm, 48, rfl⟩
abbrev main_call0_v13 : Ref sig .tc := ⟨.hbm, 49, rfl⟩
abbrev main_call0_v14 : Ref sig .tc := ⟨.hbm, 50, rfl⟩
abbrev main_call0_c_4 : Ref sig .tc := ⟨.hbm, 51, rfl⟩
abbrev main_call0_v16 : Ref sig .tc := ⟨.hbm, 52, rfl⟩
abbrev main_call0_c_5 : Ref sig .tc := ⟨.hbm, 53, rfl⟩
abbrev main_call0_v17 : Ref sig .tc := ⟨.hbm, 54, rfl⟩
abbrev main_call0_c_6 : Ref sig .tc := ⟨.hbm, 55, rfl⟩
abbrev main_call0_call1_v0 : Ref sig .tc := ⟨.hbm, 56, rfl⟩
abbrev main_call0_call1_v1 : Ref sig .tc := ⟨.hbm, 57, rfl⟩
abbrev main_call0_call1_v2 : Ref sig .tc := ⟨.hbm, 58, rfl⟩
abbrev main_call0_call1_v3 : Ref sig .tc := ⟨.hbm, 59, rfl⟩
abbrev main_call0_call1_v4 : Ref sig .tc := ⟨.hbm, 60, rfl⟩
abbrev main_call0_call1_v5 : Ref sig .tc := ⟨.hbm, 61, rfl⟩
abbrev main_call0_call1_v6 : Ref sig .tc := ⟨.hbm, 62, rfl⟩
abbrev main_call0_call1_v7 : Ref sig .tc := ⟨.hbm, 63, rfl⟩
abbrev main_call0_call1_v8 : Ref sig .tc := ⟨.hbm, 64, rfl⟩
abbrev main_call0_call1_c : Ref sig .tc := ⟨.hbm, 65, rfl⟩
abbrev main_call0_call1_v9 : Ref sig .tc := ⟨.hbm, 66, rfl⟩
abbrev main_call0_call1_v10 : Ref sig .tc := ⟨.hbm, 67, rfl⟩
abbrev main_call0_call1_v11 : Ref sig .tc := ⟨.hbm, 68, rfl⟩
abbrev main_call0_call1_c_0 : Ref sig .tc := ⟨.hbm, 69, rfl⟩
abbrev main_call0_call1_v12 : Ref sig .tc := ⟨.hbm, 70, rfl⟩
abbrev main_call0_call1_v13 : Ref sig .tc := ⟨.hbm, 71, rfl⟩
abbrev main_call0_v18 : Ref sig .tc := ⟨.hbm, 72, rfl⟩
abbrev main_call0_c_7 : Ref sig .tc := ⟨.hbm, 73, rfl⟩
abbrev main_call0_v19 : Ref sig .tc := ⟨.hbm, 74, rfl⟩
abbrev main_call0_v20 : Ref sig .tc := ⟨.hbm, 75, rfl⟩
abbrev main_call0_c_8 : Ref sig .tc := ⟨.hbm, 76, rfl⟩
abbrev main_call0_v21 : Ref sig .tc := ⟨.hbm, 77, rfl⟩
abbrev main_call0_v23 : Ref sig .tc := ⟨.hbm, 78, rfl⟩
abbrev main_call0_v24 : Ref sig .tc := ⟨.hbm, 79, rfl⟩
abbrev main_call0_v25 : Ref sig .tc := ⟨.hbm, 80, rfl⟩
abbrev main_call0_c_9 : Ref sig .tc := ⟨.hbm, 81, rfl⟩
abbrev main_call0_v26 : Ref sig .tc := ⟨.hbm, 82, rfl⟩
abbrev main_call0_v27 : Ref sig .tc := ⟨.hbm, 83, rfl⟩
abbrev main_call0_v28 : Ref sig .tc := ⟨.hbm, 84, rfl⟩
abbrev main_call0_c_10 : Ref sig .tc := ⟨.hbm, 85, rfl⟩
abbrev main_call0_v30 : Ref sig .tc := ⟨.hbm, 86, rfl⟩
abbrev main_call0_v31 : Ref sig .tc := ⟨.hbm, 87, rfl⟩
abbrev main_call0_v32 : Ref sig .tc := ⟨.hbm, 88, rfl⟩
abbrev main_call0_v33 : Ref sig .tc := ⟨.hbm, 89, rfl⟩
abbrev main_call0_v34 : Ref sig .tc := ⟨.hbm, 90, rfl⟩
abbrev main_call0_v35 : Ref sig .tc := ⟨.hbm, 91, rfl⟩
abbrev main_call0_v36 : Ref sig .tc := ⟨.hbm, 92, rfl⟩
abbrev main_call0_v37 : Ref sig .tc := ⟨.hbm, 93, rfl⟩
abbrev main_call0_v38 : Ref sig .tc := ⟨.hbm, 94, rfl⟩
abbrev main_v0 : Ref sig .tc := ⟨.hbm, 95, rfl⟩
abbrev main_call0_v8 : Ref sig .tc := ⟨.smem, 0, rfl⟩
abbrev main_call0_v15 : Ref sig .tc := ⟨.smem, 1, rfl⟩
abbrev main_call0_v22 : Ref sig .tc := ⟨.smem, 2, rfl⟩
abbrev main_call0_v29 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20

abbrev nD : Nat := 1
abbrev τ : Topo := Topo.v7x

variable {F : FTy → Type} [FloatOps F]

abbrev grid0 : Pipeline.Grid := ⟨1, ![10], ![false]⟩

abbrev pre0 : Pipeline.Prefetch sig := ⟨4, ![main_call0_v8.idx, main_call0_v15.idx, main_call0_v22.idx, main_call0_v29.idx], fun | 0 => main_call0_v8.names | 1 => main_call0_v15.names | 2 => main_call0_v22.names | 3 => main_call0_v29.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) : Fin 1 → Nat :=
  let arg0 : BitVec 32 := BitVec.ofNat 32 (i 0).val
  let v37 : Index := Scalar.indexCast arg0
  ![v37.toNat]
def k0_mult1 (v38 : BitVec 32) : BitVec 32 :=
  v38

def k0_off2 (v38 : BitVec 32) : Fin 2 → Nat :=
  let v39 : BitVec 32 := v38
  let v50 : Index := Scalar.indexCast v39
  let c0_21 : Index := 0#32
  ![v50.toNat, 0]
def k0_off3 (v38 : BitVec 32) : Fin 2 → Nat :=
  let v39 : BitVec 32 := v38
  let v62 : Index := Scalar.indexCast v39
  let c0_25 : Index := 0#32
  ![v62.toNat, 0]

def k0_chk1 (v38 : BitVec 32) : Prop :=
  (8 ∣ (k0_mult1 v38).toNat) ∧
  (∀ a, (k0_off2 v38) a + S64x256.size a ≤ S512x256.size a) ∧
  (∀ a, (k0_off3 v38) a + S64x128.size a ≤ S512x128.size a)
theorem k0_mult1_dvd : ∀ (v38 : BitVec 32) (k0_hw1 : k0_chk1 v38), 8 ∣ (k0_mult1 v38).toNat := fun v38 k0_hw1 => k0_hw1.1
theorem k0_off2_inb : ∀ (v38 : BitVec 32) (k0_hw1 : k0_chk1 v38), ∀ a, (k0_off2 v38) a + S64x256.size a ≤ S512x256.size a := fun v38 k0_hw1 => k0_hw1.2.1
theorem k0_off3_inb : ∀ (v38 : BitVec 32) (k0_hw1 : k0_chk1 v38), ∀ a, (k0_off3 v38) a + S64x128.size a ≤ S512x128.size a := fun v38 k0_hw1 => k0_hw1.2.2

def k0_off4 (i : grid0.Coords) : Fin 1 → Nat :=
  let arg0 : BitVec 32 := BitVec.ofNat 32 (i 0).val
  let v71 : Index := Scalar.indexCast arg0
  ![v71.toNat]
def k0_off5 (i : grid0.Coords) : Fin 1 → Nat :=
  let arg0 : BitVec 32 := BitVec.ofNat 32 (i 0).val
  let v98 : Index := Scalar.indexCast arg0
  ![v98.toNat]
def k0_mult2 (v99 : BitVec 32) : BitVec 32 :=
  v99

def k0_off6 (v99 : BitVec 32) : Fin 2 → Nat :=
  let v100 : BitVec 32 := v99
  let v111 : Index := Scalar.indexCast v100
  let c0_39 : Index := 0#32
  ![v111.toNat, 0]
def k0_off7 (v99 : BitVec 32) : Fin 2 → Nat :=
  let v100 : BitVec 32 := v99
  let v123 : Index := Scalar.indexCast v100
  let c0_43 : Index := 0#32
  ![v123.toNat, 0]

def k0_chk2 (v99 : BitVec 32) : Prop :=
  (8 ∣ (k0_mult2 v99).toNat) ∧
  (∀ a, (k0_off6 v99) a + S64x256.size a ≤ S512x256.size a) ∧
  (∀ a, (k0_off7 v99) a + S64x128.size a ≤ S512x128.size a)
theorem k0_mult2_dvd : ∀ (v99 : BitVec 32) (k0_hw2 : k0_chk2 v99), 8 ∣ (k0_mult2 v99).toNat := fun v99 k0_hw2 => k0_hw2.1
theorem k0_off6_inb : ∀ (v99 : BitVec 32) (k0_hw2 : k0_chk2 v99), ∀ a, (k0_off6 v99) a + S64x256.size a ≤ S512x256.size a := fun v99 k0_hw2 => k0_hw2.2.1
theorem k0_off7_inb : ∀ (v99 : BitVec 32) (k0_hw2 : k0_chk2 v99), ∀ a, (k0_off7 v99) a + S64x128.size a ≤ S512x128.size a := fun v99 k0_hw2 => k0_hw2.2.2

def k0_off8 (i : grid0.Coords) : Fin 1 → Nat :=
  let arg0 : BitVec 32 := BitVec.ofNat 32 (i 0).val
  let v132 : Index := Scalar.indexCast arg0
  ![v132.toNat]
def k0_cond4 (i : grid0.Coords) : BitVec 1 :=
  let arg0 : BitVec 32 := BitVec.ofNat 32 (i 0).val
  let c9_i32 : BitVec 32 := 9#32
  let v137 : BitVec 1 := Scalar.cmpi .eq arg0 c9_i32
  let v138 : BitVec 32 := Scalar.extui v137
  let c0_i32_47 : BitVec 32 := 0#32
  let v139 : BitVec 1 := Scalar.cmpi .ne v138 c0_i32_47
  v139

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x5000 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x5000 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S512x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== ReferenceIdeal.lean ====
abbrev S50000x256 : Shape := ⟨2, ![50000, 256]⟩
abbrev S50000 : Shape := ⟨1, ![50000]⟩
abbrev S256x256 : Shape := ⟨2, ![256, 256]⟩
abbrev S256 : Shape := ⟨1, ![256]⟩
abbrev S256x1 : Shape := ⟨2, ![256, 1]⟩
abbrev S1 : Shape := ⟨1, ![1]⟩
abbrev S512x256 : Shape := ⟨2, ![512, 256]⟩
abbrev S256x128 : Shape := ⟨2, ![256, 128]⟩
abbrev S128 : Shape := ⟨1, ![128]⟩
abbrev S1x256 : Shape := ⟨2, ![1, 256]⟩
abbrev S_ : Shape := ⟨0, ![]⟩
abbrev S50000x1 : Shape := ⟨2, ![50000, 1]⟩
abbrev S1x1 : Shape := ⟨2, ![1, 1]⟩
abbrev S512x1 : Shape := ⟨2, ![512, 1]⟩
abbrev S512x512 : Shape := ⟨2, ![512, 512]⟩
abbrev S512x128 : Shape := ⟨2, ![512, 128]⟩
abbrev S1x128 : Shape := ⟨2, ![1, 128]⟩

abbrev nBuf : Space → Nat
  | .hbm => 105
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S50000, .i32⟩
  | .hbm, ⟨2, _⟩ => ⟨S50000x256, .f32⟩
  | .hbm, ⟨3, _⟩ => ⟨S50000, .i32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x1, .f32⟩
  | .hbm, ⟨9, _⟩ => ⟨S1, .f32⟩
  | .hbm, ⟨10, _⟩ => ⟨S512x256, .f32⟩
  | .hbm, ⟨11, _⟩ => ⟨S256, .f32⟩
  | .hbm, ⟨12, _⟩ => ⟨S256x256, .f32⟩
  | .hbm, ⟨13, _⟩ => ⟨S256, .f32⟩
  | .hbm, ⟨14, _⟩ => ⟨S256x128, .f32⟩
  | .hbm, ⟨15, _⟩ => ⟨S128, .f32⟩
  | .hbm, ⟨16, _⟩ => ⟨S50000x256, .f32⟩
  | .hbm, ⟨17, _⟩ => ⟨S1x256, .f32⟩
  | .hbm, ⟨18, _⟩ => ⟨S50000x256, .f32⟩
  | .hbm, ⟨19, _⟩ => ⟨S50000x256, .f32⟩
  | .hbm, ⟨20, _⟩ => ⟨S_, .f32⟩
  | .hbm, ⟨21, _⟩ => ⟨S50000x256, .f32⟩
  | .hbm, ⟨22, _⟩ => ⟨S50000x256, .f32⟩
  | .hbm, ⟨23, _⟩ => ⟨S50000x256, .f32⟩
  | .hbm, ⟨24, _⟩ => ⟨S1x256, .f32⟩
  | .hbm, ⟨25, _⟩ => ⟨S50000x256, .f32⟩
  | .hbm, ⟨26, _⟩ => ⟨S50000x256, .f32⟩
  | .hbm, ⟨27, _⟩ => ⟨S_, .f32⟩
  | .hbm, ⟨28, _⟩ => ⟨S50000x256, .f32⟩
  | .hbm, ⟨29, _⟩ => ⟨S50000x256, .f32⟩
  | .hbm, ⟨30, _⟩ => ⟨S50000x1, .f32⟩
  | .hbm, ⟨31, _⟩ => ⟨S1x1, .f32⟩
  | .hbm, ⟨32, _⟩ => ⟨S50000x1, .f32⟩
  | .hbm, ⟨33, _⟩ => ⟨S50000x1, .f32⟩
  | .hbm, ⟨34, _⟩ => ⟨S50000x256, .f32⟩
  | .hbm, ⟨35, _⟩ => ⟨S50000x256, .f32⟩
  | .hbm, ⟨36, _⟩ => ⟨S_, .f32⟩
  | .hbm, ⟨37, _⟩ => ⟨S512x256, .f32⟩
  | .hbm, ⟨38, _⟩ => ⟨S50000x1, .i32⟩
  | .hbm, ⟨39, _⟩ => ⟨S512x256, .f32⟩
  | .hbm, ⟨40, _⟩ => ⟨S_, .f32⟩
  | .hbm, ⟨41, _⟩ => ⟨S50000x1, .f32⟩
  | .hbm, ⟨42, _⟩ => ⟨S_, .f32⟩
  | .hbm, ⟨43, _⟩ => ⟨S512x1, .f32⟩
  | .hbm, ⟨44, _⟩ => ⟨S50000x1, .i32⟩
  | .hbm, ⟨45, _⟩ => ⟨S512x1, .f32⟩
  | .hbm, ⟨46, _⟩ => ⟨S_, .f32⟩
  | .hbm, ⟨47, _⟩ => ⟨S512x1, .f32⟩
  | .hbm, ⟨48, _⟩ => ⟨S512x1, .f32⟩
  | .hbm, ⟨49, _⟩ => ⟨S512x256, .f32⟩
  | .hbm, ⟨50, _⟩ => ⟨S512x256, .f32⟩
  | .hbm, ⟨51, _⟩ => ⟨S50000x256, .f32⟩
  | .hbm, ⟨52, _⟩ => ⟨S1x256, .f32⟩
  | .hbm, ⟨53, _⟩ => ⟨S50000x256, .f32⟩
  | .hbm, ⟨54, _⟩ => ⟨S50000x256, .f32⟩
  | .hbm, ⟨55, _⟩ => ⟨S_, .f32⟩
  | .hbm, ⟨56, _⟩ => ⟨S50000x256, .f32⟩
  | .hbm, ⟨57, _⟩ => ⟨S50000x256, .f32⟩
  | .hbm, ⟨58, _⟩ => ⟨S50000x256, .f32⟩
  | .hbm, ⟨59, _⟩ => ⟨S1x256, .f32⟩
  | .hbm, ⟨60, _⟩ => ⟨S50000x256, .f32⟩
  | .hbm, ⟨61, _⟩ => ⟨S50000x256, .f32⟩
  | .hbm, ⟨62, _⟩ => ⟨S_, .f32⟩
  | .hbm, ⟨63, _⟩ => ⟨S50000x256, .f32⟩
  | .hbm, ⟨64, _⟩ => ⟨S50000x256, .f32⟩
  | .hbm, ⟨65, _⟩ => ⟨S50000x1, .f32⟩
  | .hbm, ⟨66, _⟩ => ⟨S1x1, .f32⟩
  | .hbm, ⟨67, _⟩ => ⟨S50000x1, .f32⟩
  | .hbm, ⟨68, _⟩ => ⟨S50000x1, .f32⟩
  | .hbm, ⟨69, _⟩ => ⟨S50000x256, .f32⟩
  | .hbm, ⟨70, _⟩ => ⟨S50000x256, .f32⟩
  | .hbm, ⟨71, _⟩ => ⟨S_, .f32⟩
  | .hbm, ⟨72, _⟩ => ⟨S512x256, .f32⟩
  | .hbm, ⟨73, _⟩ => ⟨S50000x1, .i32⟩
  | .hbm, ⟨74, _⟩ => ⟨S512x256, .f32⟩
  | .hbm, ⟨75, _⟩ => ⟨S_, .f32⟩
  | .hbm, ⟨76, _⟩ => ⟨S50000x1, .f32⟩
  | .hbm, ⟨77, _⟩ => ⟨S_, .f32⟩
  | .hbm, ⟨78, _⟩ => ⟨S512x1, .f32⟩
  | .hbm, ⟨79, _⟩ => ⟨S50000x1, .i32⟩
  | .hbm, ⟨80, _⟩ => ⟨S512x1, .f32⟩
  | .hbm, ⟨81, _⟩ => ⟨S_, .f32⟩
  | .hbm, ⟨82, _⟩ => ⟨S512x1, .f32⟩
  | .hbm, ⟨83, _⟩ => ⟨S512x1, .f32⟩
  | .hbm, ⟨84, _⟩ => ⟨S512x256, .f32⟩
  | .hbm, ⟨85, _⟩ => ⟨S512x256, .f32⟩
  | .hbm, ⟨86, _⟩ => ⟨S512x512, .f32⟩
  | .hbm, ⟨87, _⟩ => ⟨S512x256, .f32⟩
  | .hbm, ⟨88, _⟩ => ⟨S1x256, .f32⟩
  | .hbm, ⟨89, _⟩ => ⟨S512x256, .f32⟩
  | .hbm, ⟨90, _⟩ => ⟨S512x256, .f32⟩
  | .hbm, ⟨91, _⟩ => ⟨S_, .f32⟩
  | .hbm, ⟨92, _⟩ => ⟨S512x256, .f32⟩
  | .hbm, ⟨93, _⟩ => ⟨S512x256, .f32⟩
  | .hbm, ⟨94, _⟩ => ⟨S512x256, .f32⟩
  | .hbm, ⟨95, _⟩ => ⟨S1x256, .f32⟩
  | .hbm, ⟨96, _⟩ => ⟨S512x256, .f32⟩
  | .hbm, ⟨97, _⟩ => ⟨S512x256, .f32⟩
  | .hbm, ⟨98, _⟩ => ⟨S_, .f32⟩
  | .hbm, ⟨99, _⟩ => ⟨S512x256, .f32⟩
  | .hbm, ⟨100, _⟩ => ⟨S512x256, .f32⟩
  | .hbm, ⟨101, _⟩ => ⟨S512x128, .f32⟩
  | .hbm, ⟨102, _⟩ => ⟨S1x128, .f32⟩
  | .hbm, ⟨103, _⟩ => ⟨S512x128, .f32⟩
  | .hbm, ⟨104, _⟩ => ⟨S512x128, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_call0_cst : Ref sig .tc := ⟨.hbm, 20, rfl⟩
abbrev main_call0_v0 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_call1_cst : Ref sig .tc := ⟨.hbm, 27, rfl⟩
abbrev main_call1_v0 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_cst_0 : Ref sig .tc := ⟨.hbm, 40, rfl⟩
abbrev main_v19 : Ref sig .tc := ⟨.hbm, 41, rfl⟩
abbrev main_cst_1 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_cst_2 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_call2_cst : Ref sig .tc := ⟨.hbm, 55, rfl⟩
abbrev main_call2_v0 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_call3_cst : Ref sig .tc := ⟨.hbm, 62, rfl⟩
abbrev main_call3_v0 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_3 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_4 : Ref sig .tc := ⟨.hbm, 75, rfl⟩
abbrev main_v46 : Ref sig .tc := ⟨.hbm, 76, rfl⟩
abbrev main_cst_5 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_cst_6 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_call4_cst : Ref sig .tc := ⟨.hbm, 91, rfl⟩
abbrev main_call4_v0 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_call5_cst : Ref sig .tc := ⟨.hbm, 98, rfl⟩
abbrev main_call5_v0 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩

abbrev nD : Nat := 1
abbrev τ : Topo := Topo.v7x

variable {F : FTy → Type} [FloatOps F]
-- ==== Proof.Body.lean ====
/-
  One grid point of the kernel. `body_run`: from its twenty-five buffers held, the body runs to its end, and what it leaves is
  stated by plain functions of what it found: `stepSu`/`stepCnt` for the four accumulators (the window's sums added in place,
  then the rows outside the window when the block has any), `outVal` for the result at the last point.
-/
module

public import proofs.«01_k».proof.Proof.Gen.KernelIdeal.Skeleton
public import proofs.«01_k».proof.Proof.Gen.KernelIdeal.Launch
public import Idealize.ShloMosaic.Lib.Tactic
public import Idealize.ShloMosaic.Lib.VecWindow

@[expose] public section

noncomputable section

namespace Cert.Proof

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra: the rounds library's, for the pipeline's cells (the kernel has no cell of its own). -/
abbrev UR (nD : Nat) (τ : Topo) : Type := URounds (GSem nD τ sig) Unit

local notation "𝕄" => MT nD τ sig Unit (Elt F) ℕ (UR nD τ) ℕ

/-- The contents of memref `M`'s buffer on core `c`. -/
abbrev Bf (c : Dev nD) {sp : Space} {S : Shape} {e : EltTy} (M : Memref sig .tc sp S e) : Type := Buf (Elt F) (M.view.loc (c : Thread nD τ))
/-- Memref `M`'s buffer on core `c`, held at `f` in the share `q`. -/
abbrev ptq (q : PosShare TreeShare) (c : Dev nD) {sp : Space} {S : Shape} {e : EltTy} (M : Memref sig .tc sp S e) (f : Bf (F := F) c M) : sProp 𝕄 :=
  M.view.loc (c : Thread nD τ) ↦{q} f
/-- Memref `M`'s buffer on core `c`, held whole at `f`. -/
abbrev pt (c : Dev nD) {sp : Space} {S : Shape} {e : EltTy} (M : Memref sig .tc sp S e) (f : Bf (F := F) c M) : sProp 𝕄 :=
  ptq fullShare c M f

/-- The place of the grid point's word in a ten-word table. -/
def placeAt (i : grid0.Coords) : S10.Idx := (Rect.unit (s := S10) (k0_off1 i) S1.size (k0_off1_inb i)).emb (Shape.Idx.first (Nat.lt_of_lt_of_eq Nat.zero_lt_one numel1_S1.symm))

/-- The grid point's word of a table. -/
def wordAt (T : Vec F S10 .i32) (i : grid0.Coords) : BitVec 32 := T (placeAt i)

/-- The bit that says a count of rows outside the window is positive. -/
def anyOut (n : BitVec 32) : BitVec 1 := Scalar.cmpi .ne (Scalar.extui (Scalar.cmpi .sgt n 0#32) : BitVec 32) 0#32

/-- The bit that says the grid point is the first. -/
def isFirst (i : grid0.Coords) : BitVec 1 := Scalar.cmpi .ne (Scalar.extui (Scalar.cmpi .eq (BitVec.ofNat 32 (i 0).val) 0#32) : BitVec 32) 0#32

/-- The sums found at a grid point: zero at the first, else what is there. -/
def initSu (i : grid0.Coords) (s : Vec F S512x256 .f32) : Vec F S512x256 .f32 := if isFirst i = 1#1 then k0_pay7 else s
/-- The counts found at a grid point: zero at the first, else what is there. -/
def initCnt (i : grid0.Coords) (s : Vec F S512x128 .f32) : Vec F S512x128 .f32 := if isFirst i = 1#1 then k0_pay8 else s

/-- The sums with the block's window added in place: `w` the weighted rows, `b` the ids, `base` the window's first segment. -/
def winSu (w : FVec F S5000x256 .bf16) (b : Vec F S1x1x5000 .i32) (base : BitVec 32) (s : Vec F S512x256 .f32) : Vec F S512x256 .f32 :=
  if h : k0_chk1 base then
    VecWindow.put (s := S512x256) s (k0_off2 base) S64x256.size (k0_pay21 w base b (VecWindow.window (s := S512x256) s (k0_off2 base) S64x256.size (k0_off2_inb base h)))
  else s

/-- The sums after the block: the window added, then the rows outside it when there are any. -/
def stepSu (w : FVec F S5000x256 .bf16) (b : Vec F S1x1x5000 .i32) (base n : BitVec 32) (s : Vec F S512x256 .f32) : Vec F S512x256 .f32 :=
  if anyOut n = 1#1 then k0_pay24 w base b (winSu w b base s) else winSu w b base s

/-- The counts with the block's window added in place. -/
def winCnt (b : Vec F S1x1x5000 .i32) (base : BitVec 32) (s : Vec F S512x128 .f32) : Vec F S512x128 .f32 :=
  if h : k0_chk1 base then
    VecWindow.put (s := S512x128) s (k0_off3 base) S64x128.size (k0_pay22 base b (VecWindow.window (s := S512x128) s (k0_off3 base) S64x128.size (k0_off3_inb base h)))
  else s

/-- The counts after the block. -/
def stepCnt (b : Vec F S1x1x5000 .i32) (base n : BitVec 32) (s : Vec F S512x128 .f32) : Vec F S512x128 .f32 :=
  if anyOut n = 1#1 then k0_pay25 base b (winCnt b base s) else winCnt b base s

/-- The result of the last point from the four accumulators and the second network's weights. -/
def outVal (s1 : Vec F S512x256 .f32) (c1 : Vec F S512x128 .f32) (s2 : Vec F S512x256 .f32) (c2 : Vec F S512x128 .f32) (wf0 : Vec F S512x256 .f32)
    (bf0 : Vec F S1x256 .f32) (wf1 : Vec F S256x256 .f32) (bf1 : Vec F S1x256 .f32) (wf2 : Vec F S256x128 .f32) (bf2 : Vec F S1x128 .f32) : Vec F S512x128 .f32 :=
  k0_pay5 (k0_pay6 (VecWindow.window (s := S512x128) c1 ![0, 0] S512x1.size inb_S512x128_S512x1_0_0) (VecWindow.window (s := S512x128) c2 ![0, 0] S512x1.size inb_S512x128_S512x1_0_0)
    s1 s2 (VecWindow.window (s := S512x256) wf0 ![0, 0] S256x256.size inb_S512x256_S256x256_0_0) (VecWindow.window (s := S512x256) wf0 ![256, 0] S256x256.size inb_S512x256_S256x256_256_0)
    bf0 wf1 bf1) wf2 (constant S512x128 .f32 0x00000000#32) bf2

/-- What a buffer reads after the zeroing of the first point. -/
theorem read_init {S : Shape} {sp : Space} {e : EltTy} (v : View sig .tc sp S e) (f : v.ty.Contents (Elt F)) (p : Prop) [Decidable p]
    {off : Fin S.rank → ℕ} (inb : ∀ a, off a + S.size a ≤ S.size a) (w : S.Idx → Elt F e) :
    v.read (Elt F) (if _h : p then v.writes (Elt F) f [⟨Rect.unit off S.size inb, w⟩] else f) = if p then w else v.read (Elt F) f := by
  split_ifs
  · exact View.read_writes_full v f inb w []
  · rfl

/-- What a buffer reads after a window's store and, when `p`, a whole store over it. -/
theorem read_step {S : Shape} {sp : Space} {e : EltTy} (v : View sig .tc sp S e) (f : v.ty.Contents (Elt F)) (p : Prop) [Decidable p]
    {off off' size : Fin S.rank → ℕ} (inb : ∀ a, off a + S.size a ≤ S.size a) (inb' : ∀ a, off' a + size a ≤ S.size a) (w : S.Idx → Elt F e)
    (w' : (Rect.unit off' size inb').shape.Idx → Elt F e) :
    v.read (Elt F) (if _h : p then v.writes (Elt F) f (⟨Rect.unit off S.size inb, w⟩ :: [⟨Rect.unit off' size inb', w'⟩])
        else v.writes (Elt F) f [⟨Rect.unit off' size inb', w'⟩])
      = if p then w else VecWindow.put (v.read (Elt F) f) off' size w' := by
  split_ifs
  · exact View.read_writes_full v f inb w _
  · exact View.read_writes_cons_put v f inb' w' [] rfl

/-- The sums a point leaves, read back: from the buffer as found (reading `s`), the window's store and the outside rows' store. -/
theorem su_left {sp : Space} (v : View sig .tc sp S512x256 .f32) (f : v.ty.Contents (Elt F)) (base n : BitVec 32) (h : k0_chk1 base)
    {w w' : FVec F S5000x256 .bf16} {b b' : Vec F S1x1x5000 .i32} {s : Vec F S512x256 .f32} (hw : w' = w) (hb : b' = b) (hs : v.read (Elt F) f = s) :
    v.read (Elt F) (if _h : anyOut n = 1#1 then
        v.writes (Elt F) f (⟨Rect.unit ![0, 0] S512x256.size inb_S512x256_S512x256_0_0, k0_pay24 w' base b' (v.readAt (Elt F) (Rect.unit (s := S512x256) ![0, 0] S512x256.size inb_S512x256_S512x256_0_0).toLoadRect
            (v.writes (Elt F) f [⟨Rect.unit (k0_off2 base) S64x256.size (k0_off2_inb base h), k0_pay21 w' base b' (v.readAt (Elt F) (Rect.unit (s := S512x256) (k0_off2 base) S64x256.size (k0_off2_inb base h)).toLoadRect f)⟩]))⟩
          :: [⟨Rect.unit (k0_off2 base) S64x256.size (k0_off2_inb base h), k0_pay21 w' base b' (v.readAt (Elt F) (Rect.unit (s := S512x256) (k0_off2 base) S64x256.size (k0_off2_inb base h)).toLoadRect f)⟩])
      else v.writes (Elt F) f [⟨Rect.unit (k0_off2 base) S64x256.size (k0_off2_inb base h), k0_pay21 w' base b' (v.readAt (Elt F) (Rect.unit (s := S512x256) (k0_off2 base) S64x256.size (k0_off2_inb base h)).toLoadRect f)⟩])
      = stepSu w b base n s := by
  subst hw; subst hb; subst hs
  rw [read_step, View.readAt_full, View.read_writes_cons_put (h := rfl), View.writes_nil]
  unfold stepSu winSu
  rw [dif_pos h]
  rfl

/-- The counts a point leaves, read back. -/
theorem cnt_left {sp : Space} (v : View sig .tc sp S512x128 .f32) (f : v.ty.Contents (Elt F)) (base n : BitVec 32) (h : k0_chk1 base)
    {b b' : Vec F S1x1x5000 .i32} {s : Vec F S512x128 .f32} (hb : b' = b) (hs : v.read (Elt F) f = s) :
    v.read (Elt F) (if _h : anyOut n = 1#1 then
        v.writes (Elt F) f (⟨Rect.unit ![0, 0] S512x128.size inb_S512x128_S512x128_0_0, k0_pay25 base b' (v.readAt (Elt F) (Rect.unit (s := S512x128) ![0, 0] S512x128.size inb_S512x128_S512x128_0_0).toLoadRect
            (v.writes (Elt F) f [⟨Rect.unit (k0_off3 base) S64x128.size (k0_off3_inb base h), k0_pay22 base b' (v.readAt (Elt F) (Rect.unit (s := S512x128) (k0_off3 base) S64x128.size (k0_off3_inb base h)).toLoadRect f)⟩]))⟩
          :: [⟨Rect.unit (k0_off3 base) S64x128.size (k0_off3_inb base h), k0_pay22 base b' (v.readAt (Elt F) (Rect.unit (s := S512x128) (k0_off3 base) S64x128.size (k0_off3_inb base h)).toLoadRect f)⟩])
      else v.writes (Elt F) f [⟨Rect.unit (k0_off3 base) S64x128.size (k0_off3_inb base h), k0_pay22 base b' (v.readAt (Elt F) (Rect.unit (s := S512x128) (k0_off3 base) S64x128.size (k0_off3_inb base h)).toLoadRect f)⟩])
      = stepCnt b base n s := by
  subst hb; subst hs
  rw [read_step, View.readAt_full, View.read_writes_cons_put (h := rfl), View.writes_nil]
  unfold stepCnt winCnt
  rw [dif_pos h]
  rfl

/-- The weighted rows of a block depend on the operands' values only. -/
theorem rows_congr {a a' : Vec F S256x256 .bf16} {b b' : Vec F S256x256 .bf16} {d d' e e' g g' : Vec F S1x256 .f32} {k k' : Vec F S1x1 .f32} {x x' : Vec F S5000x256 .f32}
    (h1 : a = a') (h2 : b = b') (h3 : d = d') (h4 : e = e') (h5 : g = g') (h6 : k = k') (h7 : x = x') :
    k0_pay17 a b d e g k x = k0_pay17 a' b' d' e' g' k' x' := by
  subst h1; subst h2; subst h3; subst h4; subst h5; subst h6; subst h7; rfl

/-- The result the last point stores, read back. -/
theorem out_left {sp21 sp22 sp23 sp24 sp25 sp15 : Space} (v : View sig .tc sp21 S512x128 .f32) (f : v.ty.Contents (Elt F)) (p : Prop) [Decidable p]
    (v22 : View sig .tc sp22 S512x256 .f32) (g22 : v22.ty.Contents (Elt F)) (v23 : View sig .tc sp23 S512x128 .f32) (g23 : v23.ty.Contents (Elt F))
    (v24 : View sig .tc sp24 S512x256 .f32) (g24 : v24.ty.Contents (Elt F)) (v25 : View sig .tc sp25 S512x128 .f32) (g25 : v25.ty.Contents (Elt F))
    (v15 : View sig .tc sp15 S512x256 .f32) (g15 : v15.ty.Contents (Elt F))
    {s1 s2 : Vec F S512x256 .f32} {c1 c2 : Vec F S512x128 .f32} {bf0 bf0' bf1 bf1' : Vec F S1x256 .f32} {wf1 wf1' : Vec F S256x256 .f32} {wf2 wf2' : Vec F S256x128 .f32} {bf2 bf2' : Vec F S1x128 .f32}
    (h22 : v22.read (Elt F) g22 = s1) (h23 : v23.read (Elt F) g23 = c1) (h24 : v24.read (Elt F) g24 = s2) (h25 : v25.read (Elt F) g25 = c2)
    (hb0 : bf0' = bf0) (hw1 : wf1' = wf1) (hb1 : bf1' = bf1) (hw2 : wf2' = wf2) (hb2 : bf2' = bf2) :
    v.read (Elt F) (if _h : p then v.writes (Elt F) f [⟨Rect.unit ![0, 0] S512x128.size inb_S512x128_S512x128_0_0,
        k0_pay5 (k0_pay6 (v23.readAt (Elt F) (Rect.unit (s := S512x128) ![0, 0] S512x1.size inb_S512x128_S512x1_0_0).toLoadRect g23)
          (v25.readAt (Elt F) (Rect.unit (s := S512x128) ![0, 0] S512x1.size inb_S512x128_S512x1_0_0).toLoadRect g25)
          (v22.readAt (Elt F) (Rect.unit (s := S512x256) ![0, 0] S512x256.size inb_S512x256_S512x256_0_0).toLoadRect g22)
          (v24.readAt (Elt F) (Rect.unit (s := S512x256) ![0, 0] S512x256.size inb_S512x256_S512x256_0_0).toLoadRect g24)
          (v15.readAt (Elt F) (Rect.unit (s := S512x256) ![0, 0] S256x256.size inb_S512x256_S256x256_0_0).toLoadRect g15)
          (v15.readAt (Elt F) (Rect.unit (s := S512x256) ![256, 0] S256x256.size inb_S512x256_S256x256_256_0).toLoadRect g15)
          bf0' wf1' bf1') wf2' (constant S512x128 .f32 0x00000000#32) bf2'⟩] else f)
      = if p then outVal s1 c1 s2 c2 (v15.read (Elt F) g15) bf0 wf1 bf1 wf2 bf2 else v.read (Elt F) f := by
  subst hb0; subst hw1; subst hb1; subst hw2; subst hb2; subst h22; subst h23; subst h24; subst h25
  rw [read_init, View.readAt_full v22, View.readAt_full v24]
  rfl

variable (c : Dev nD) (i : grid0.Coords) (M1 : Memref sig .tc .smem S10 .i32) (h1 : M1.IsWhole) (M2 : Memref sig .tc .smem S10 .i32) (h2 : M2.IsWhole) (M3 : Memref sig .tc .smem S10 .i32) (h3 : M3.IsWhole) (M4 : Memref sig .tc .smem S10 .i32) (h4 : M4.IsWhole) (M5 : Memref sig .tc .vmem S5000x256 .f32) (h5 : M5.IsWhole) (M6 : Memref sig .tc .vmem S1x1x5000 .i32) (h6 : M6.IsWhole) (M7 : Memref sig .tc .vmem S5000x256 .f32) (h7 : M7.IsWhole) (M8 : Memref sig .tc .vmem S1x1x5000 .i32) (h8 : M8.IsWhole) (M9 : Memref sig .tc .vmem S256x256 .bf16) (h9 : M9.IsWhole) (M10 : Memref sig .tc .vmem S1x256 .f32) (h10 : M10.IsWhole) (M11 : Memref sig .tc .vmem S256x256 .bf16) (h11 : M11.IsWhole) (M12 : Memref sig .tc .vmem S1x256 .f32) (h12 : M12.IsWhole) (M13 : Memref sig .tc .vmem S1x256 .f32) (h13 : M13.IsWhole) (M14 : Memref sig .tc .vmem S1x1 .f32) (h14 : M14.IsWhole) (M15 : Memref sig .tc .vmem S512x256 .f32) (h15 : M15.IsWhole) (M16 : Memref sig .tc .vmem S1x256 .f32) (h16 : M16.IsWhole) (M17 : Memref sig .tc .vmem S256x256 .f32) (h17 : M17.IsWhole) (M18 : Memref sig .tc .vmem S1x256 .f32) (h18 : M18.IsWhole) (M19 : Memref sig .tc .vmem S256x128 .f32) (h19 : M19.IsWhole) (M20 : Memref sig .tc .vmem S1x128 .f32) (h20 : M20.IsWhole) (M21 : Memref sig .tc .vmem S512x128 .f32) (h21 : M21.IsWhole) (M22 : Memref sig .tc .vmem S512x256 .f32) (h22 : M22.IsWhole) (M23 : Memref sig .tc .vmem S512x128 .f32) (h23 : M23.IsWhole) (M24 : Memref sig .tc .vmem S512x256 .f32) (h24 : M24.IsWhole) (M25 : Memref sig .tc .vmem S512x128 .f32) (h25 : M25.IsWhole)

set_option maxHeartbeats 4000000 in
/-- ONE GRID POINT, run. -/
theorem body_run (q : PosShare TreeShare) (T1 : Bf (F := F) c M1) (T2 : Bf (F := F) c M2) (T3 : Bf (F := F) c M3) (T4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) (f13 : Bf (F := F) c M13) (f14 : Bf (F := F) c M14) (f15 : Bf (F := F) c M15) (f16 : Bf (F := F) c M16) (f17 : Bf (F := F) c M17) (f18 : Bf (F := F) c M18) (f19 : Bf (F := F) c M19) (f20 : Bf (F := F) c M20) (f21 : Bf (F := F) c M21) (f22 : Bf (F := F) c M22) (f23 : Bf (F := F) c M23) (f24 : Bf (F := F) c M24) (f25 : Bf (F := F) c M25)
    (hchk : k0_chk1 (wordAt (F := F) (M1.view.read (Elt F) T1) i)) (hchk2 : k0_chk1 (wordAt (F := F) (M3.view.read (Elt F) T3) i))
    (E : Set ℕ) (Q : PUnit → sProp 𝕄) :
    iprop(ptq q c M1 T1 ∗ ptq q c M2 T2 ∗ ptq q c M3 T3 ∗ ptq q c M4 T4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14 ∗ pt c M15 f15 ∗ pt c M16 f16 ∗ pt c M17 f17 ∗ pt c M18 f18 ∗ pt c M19 f19 ∗ pt c M20 f20 ∗ pt c M21 f21 ∗ pt c M22 f22 ∗ pt c M23 f23 ∗ pt c M24 f24 ∗ pt c M25 f25
       ∗ (iprop(ptq q c M1 T1 ∗ ptq q c M2 T2 ∗ ptq q c M3 T3 ∗ ptq q c M4 T4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14 ∗ pt c M15 f15 ∗ pt c M16 f16 ∗ pt c M17 f17 ∗ pt c M18 f18 ∗ pt c M19 f19 ∗ pt c M20 f20 ∗ (∃ g : Bf (F := F) c M21, ⌜M21.view.read (Elt F) g = (if k0_cond4 i = 1#1 then outVal (stepSu (k0_pay17 (M9.view.read (Elt F) f9) (M11.view.read (Elt F) f11) (M13.view.read (Elt F) f13) (M10.view.read (Elt F) f10) (M12.view.read (Elt F) f12) (M14.view.read (Elt F) f14) (M5.view.read (Elt F) f5)) (M6.view.read (Elt F) f6) (wordAt (F := F) (M1.view.read (Elt F) T1) i) (wordAt (F := F) (M2.view.read (Elt F) T2) i) (initSu i (M22.view.read (Elt F) f22))) (stepCnt (F := F) (M6.view.read (Elt F) f6) (wordAt (F := F) (M1.view.read (Elt F) T1) i) (wordAt (F := F) (M2.view.read (Elt F) T2) i) (initCnt i (M23.view.read (Elt F) f23))) (stepSu (k0_pay17 (M9.view.read (Elt F) f9) (M11.view.read (Elt F) f11) (M13.view.read (Elt F) f13) (M10.view.read (Elt F) f10) (M12.view.read (Elt F) f12) (M14.view.read (Elt F) f14) (M7.view.read (Elt F) f7)) (M8.view.read (Elt F) f8) (wordAt (F := F) (M3.view.read (Elt F) T3) i) (wordAt (F := F) (M4.view.read (Elt F) T4) i) (initSu i (M24.view.read (Elt F) f24))) (stepCnt (F := F) (M8.view.read (Elt F) f8) (wordAt (F := F) (M3.view.read (Elt F) T3) i) (wordAt (F := F) (M4.view.read (Elt F) T4) i) (initCnt i (M25.view.read (Elt F) f25))) (M15.view.read (Elt F) f15) (M16.view.read (Elt F) f16) (M17.view.read (Elt F) f17) (M18.view.read (Elt F) f18) (M19.view.read (Elt F) f19) (M20.view.read (Elt F) f20) else (M21.view.read (Elt F) f21))⌝ ∗ pt c M21 g) ∗ (∃ g : Bf (F := F) c M22, ⌜M22.view.read (Elt F) g = (stepSu (k0_pay17 (M9.view.read (Elt F) f9) (M11.view.read (Elt F) f11) (M13.view.read (Elt F) f13) (M10.view.read (Elt F) f10) (M12.view.read (Elt F) f12) (M14.view.read (Elt F) f14) (M5.view.read (Elt F) f5)) (M6.view.read (Elt F) f6) (wordAt (F := F) (M1.view.read (Elt F) T1) i) (wordAt (F := F) (M2.view.read (Elt F) T2) i) (initSu i (M22.view.read (Elt F) f22)))⌝ ∗ pt c M22 g) ∗ (∃ g : Bf (F := F) c M23, ⌜M23.view.read (Elt F) g = (stepCnt (F := F) (M6.view.read (Elt F) f6) (wordAt (F := F) (M1.view.read (Elt F) T1) i) (wordAt (F := F) (M2.view.read (Elt F) T2) i) (initCnt i (M23.view.read (Elt F) f23)))⌝ ∗ pt c M23 g) ∗ (∃ g : Bf (F := F) c M24, ⌜M24.view.read (Elt F) g = (stepSu (k0_pay17 (M9.view.read (Elt F) f9) (M11.view.read (Elt F) f11) (M13.view.read (Elt F) f13) (M10.view.read (Elt F) f10) (M12.view.read (Elt F) f12) (M14.view.read (Elt F) f14) (M7.view.read (Elt F) f7)) (M8.view.read (Elt F) f8) (wordAt (F := F) (M3.view.read (Elt F) T3) i) (wordAt (F := F) (M4.view.read (Elt F) T4) i) (initSu i (M24.view.read (Elt F) f24)))⌝ ∗ pt c M24 g) ∗ (∃ g : Bf (F := F) c M25, ⌜M25.view.read (Elt F) g = (stepCnt (F := F) (M8.view.read (Elt F) f8) (wordAt (F := F) (M3.view.read (Elt F) T3) i) (wordAt (F := F) (M4.view.read (Elt F) T4) i) (initCnt i (M25.view.read (Elt F) f25)))⌝ ∗ pt c M25 g)) -∗ Q ⟨⟩))
      ⊢ wp frame (wpE (defs₀ (F := F)) Variants.none c none) E
          (cc0__pool_body i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 M25 h25) Q := by
  have hchk2' : k0_chk2 (wordAt (F := F) (M3.view.read (Elt F) T3) i) := hchk2
  iintro ⟨H1, H2, H3, H4, H5, H6, H7, H8, H9, H10, H11, H12, H13, H14, H15, H16, H17, H18, H19, H20, H21, H22, H23, H24, H25, Hk⟩
  sl_exec_parts! (disch := first | exact hchk | exact hchk2')
  sl_step
  iapply Hk
  have E22 := su_left M22.view (if _h : isFirst i = 1#1 then M22.view.writes (Elt F) f22 [⟨Rect.unit ![0, 0] S512x256.size inb_S512x256_S512x256_0_0, k0_pay7⟩] else f22) (wordAt (F := F) (M1.view.read (Elt F) T1) i) (wordAt (F := F) (M2.view.read (Elt F) T2) i) hchk
    (rows_congr (View.readAt_full M9.view f9 inb_S256x256_S256x256_0_0) (View.readAt_full M11.view f11 inb_S256x256_S256x256_0_0) (View.readAt_full M13.view f13 inb_S1x256_S1x256_0_0) (View.readAt_full M10.view f10 inb_S1x256_S1x256_0_0) (View.readAt_full M12.view f12 inb_S1x256_S1x256_0_0) (View.readAt_full M14.view f14 inb_S1x1_S1x1_0_0) (View.readAt_full M5.view f5 inb_S5000x256_S5000x256_0_0))
    (View.readAt_full M6.view f6 inb_S1x1x5000_S1x1x5000_0_0_0) (read_init M22.view f22 _ _ _)
  have E23 := cnt_left M23.view (if _h : isFirst i = 1#1 then M23.view.writes (Elt F) f23 [⟨Rect.unit ![0, 0] S512x128.size inb_S512x128_S512x128_0_0, k0_pay8⟩] else f23) (wordAt (F := F) (M1.view.read (Elt F) T1) i) (wordAt (F := F) (M2.view.read (Elt F) T2) i) hchk
    (View.readAt_full M6.view f6 inb_S1x1x5000_S1x1x5000_0_0_0) (read_init M23.view f23 _ _ _)
  have E24 := su_left M24.view (if _h : isFirst i = 1#1 then M24.view.writes (Elt F) f24 [⟨Rect.unit ![0, 0] S512x256.size inb_S512x256_S512x256_0_0, k0_pay7⟩] else f24) (wordAt (F := F) (M3.view.read (Elt F) T3) i) (wordAt (F := F) (M4.view.read (Elt F) T4) i) hchk2
    (rows_congr (View.readAt_full M9.view f9 inb_S256x256_S256x256_0_0) (View.readAt_full M11.view f11 inb_S256x256_S256x256_0_0) (View.readAt_full M13.view f13 inb_S1x256_S1x256_0_0) (View.readAt_full M10.view f10 inb_S1x256_S1x256_0_0) (View.readAt_full M12.view f12 inb_S1x256_S1x256_0_0) (View.readAt_full M14.view f14 inb_S1x1_S1x1_0_0) (View.readAt_full M7.view f7 inb_S5000x256_S5000x256_0_0))
    (View.readAt_full M8.view f8 inb_S1x1x5000_S1x1x5000_0_0_0) (read_init M24.view f24 _ _ _)
  have E25 := cnt_left M25.view (if _h : isFirst i = 1#1 then M25.view.writes (Elt F) f25 [⟨Rect.unit ![0, 0] S512x128.size inb_S512x128_S512x128_0_0, k0_pay8⟩] else f25) (wordAt (F := F) (M3.view.read (Elt F) T3) i) (wordAt (F := F) (M4.view.read (Elt F) T4) i) hchk2
    (View.readAt_full M8.view f8 inb_S1x1x5000_S1x1x5000_0_0_0) (read_init M25.view f25 _ _ _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]
  · iexists _; isplitr [H21]; rotate_left; · iexact H21
    ipureintro
    exact out_left _ _ _ _ _ _ _ _ _ _ _ _ _ E22 E23 E24 E25 (View.readAt_full _ _ _) (View.readAt_full _ _ _) (View.readAt_full _ _ _) (View.readAt_full _ _ _) (View.readAt_full _ _ _)
  isplitl [H22]
  · iexists _; isplitr [H22]; rotate_left; · iexact H22
    ipureintro
    exact E22
  isplitl [H23]
  · iexists _; isplitr [H23]; rotate_left; · iexact H23
    ipureintro
    exact E23
  isplitl [H24]
  · iexists _; isplitr [H24]; rotate_left; · iexact H24
    ipureintro
    exact E24
  · iexists _; isplitr [H25]; rotate_left; · iexact H25
    ipureintro
    exact E25

end Cert.Proof

end
-- ==== Proof.Run.lean ====
/-
  The launch. The proof data of the one pallas_call: what each window holds at each grid point, the four accumulators after
  `n` points, and the invariant that ties the scratch buffers to them; the body obligation from `body_run`; and the run of the
  whole program, after which every array but the result's holds what it held when the call began and the result's block is what
  the last point leaves.
-/
module

public import proofs.«01_k».proof.Proof.Body
public import Idealize.ShloMosaic.Lib.Pipeline.DatRel
public import Idealize.ShloMosaic.Lib.Pipeline.ArrRel

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window)

variable {F : FTy → Type} [FloatOps F]

local notation "𝕄" => MT nD τ sig Unit (Elt F) ℕ (UR nD τ) ℕ

/-- The sums after `n` grid points. -/
def sums (rows : Fin grid0.N → FVec F S5000x256 .bf16) (ids : Fin grid0.N → Vec F S1x1x5000 .i32) (base out : Fin grid0.N → BitVec 32) :
    ℕ → Vec F S512x256 .f32
  | 0 => k0_pay7
  | n + 1 => if h : n < grid0.N then stepSu (rows ⟨n, h⟩) (ids ⟨n, h⟩) (base ⟨n, h⟩) (out ⟨n, h⟩) (sums rows ids base out n) else k0_pay7

/-- The counts after `n` grid points. -/
def cnts (ids : Fin grid0.N → Vec F S1x1x5000 .i32) (base out : Fin grid0.N → BitVec 32) : ℕ → Vec F S512x128 .f32
  | 0 => k0_pay8
  | n + 1 => if h : n < grid0.N then stepCnt (ids ⟨n, h⟩) (base ⟨n, h⟩) (out ⟨n, h⟩) (cnts ids base out n) else k0_pay8

/-- The device's buffers when the call begins. -/
abbrev Entry : Type := (c : Dev nD) → (b : Ref sig .tc) → Buf (Elt F) ((c.tc : Thread nD τ).loc b)

variable (a : (pcfg0 (F := F)).Adm) (V : Entry (F := F)) (c : Dev nD)

/-- The arrays when the call begins. -/
def arrs (w : Fin (cfg0 a).W) : Buf (Elt F) (((cfg0 a).win w).arr.view.loc (c.tc : Thread nD τ)) := V c (Pipeline.arrRef (cfg0 a).spec w)

/-- What input window `w` holds at point `t`. -/
def held (w : Fin (cfg0 a).W) (t : Fin grid0.N) : ((cfg0 a).win w).block.Idx → Elt F ((cfg0 a).win w).elt :=
  Pipeline.heldIn (cfg0 a) (arrs a V c) w t.val t.isLt

/-- What each input window holds at point `t`, at its own shape. -/
def in0 (t : Fin grid0.N) : Vec F S5000x256 .f32 := held a V c 0 t
def in1 (t : Fin grid0.N) : Vec F S1x1x5000 .i32 := held a V c 1 t
def in2 (t : Fin grid0.N) : Vec F S5000x256 .f32 := held a V c 2 t
def in3 (t : Fin grid0.N) : Vec F S1x1x5000 .i32 := held a V c 3 t
def in4 (t : Fin grid0.N) : Vec F S256x256 .bf16 := held a V c 4 t
def in5 (t : Fin grid0.N) : Vec F S1x256 .f32 := held a V c 5 t
def in6 (t : Fin grid0.N) : Vec F S256x256 .bf16 := held a V c 6 t
def in7 (t : Fin grid0.N) : Vec F S1x256 .f32 := held a V c 7 t
def in8 (t : Fin grid0.N) : Vec F S1x256 .f32 := held a V c 8 t
def in9 (t : Fin grid0.N) : Vec F S1x1 .f32 := held a V c 9 t
def in10 (t : Fin grid0.N) : Vec F S512x256 .f32 := held a V c 10 t
def in11 (t : Fin grid0.N) : Vec F S1x256 .f32 := held a V c 11 t
def in12 (t : Fin grid0.N) : Vec F S256x256 .f32 := held a V c 12 t
def in13 (t : Fin grid0.N) : Vec F S1x256 .f32 := held a V c 13 t
def in14 (t : Fin grid0.N) : Vec F S256x128 .f32 := held a V c 14 t
def in15 (t : Fin grid0.N) : Vec F S1x128 .f32 := held a V c 15 t

/-- The weighted rows of the first node set at point `t`. -/
def rows1 (t : Fin grid0.N) : FVec F S5000x256 .bf16 :=
  k0_pay17 (in4 a V c t) (in6 a V c t) (in8 a V c t) (in5 a V c t) (in7 a V c t) (in9 a V c t) (in0 a V c t)
/-- The weighted rows of the second node set at point `t`. -/
def rows2 (t : Fin grid0.N) : FVec F S5000x256 .bf16 :=
  k0_pay17 (in4 a V c t) (in6 a V c t) (in8 a V c t) (in5 a V c t) (in7 a V c t) (in9 a V c t) (in2 a V c t)

/-- The four tables. -/
def tab1 : Vec F S10 .i32 := (Memref.whole main_call0_v8).view.read (Elt F) (a.1 0)
def tab2 : Vec F S10 .i32 := (Memref.whole main_call0_v15).view.read (Elt F) (a.1 1)
def tab3 : Vec F S10 .i32 := (Memref.whole main_call0_v22).view.read (Elt F) (a.1 2)
def tab4 : Vec F S10 .i32 := (Memref.whole main_call0_v29).view.read (Elt F) (a.1 3)

/-- A table's word at a grid point. -/
def wordsOf (T : Vec F S10 .i32) (t : Fin grid0.N) : BitVec 32 := wordAt T (grid0.coords t)

def su1 : ℕ → Vec F S512x256 .f32 := sums (rows1 a V c) (in1 a V c) (wordsOf (tab1 a)) (wordsOf (tab2 a))
def cn1 : ℕ → Vec F S512x128 .f32 := cnts (in1 a V c) (wordsOf (tab1 a)) (wordsOf (tab2 a))
def su2 : ℕ → Vec F S512x256 .f32 := sums (rows2 a V c) (in3 a V c) (wordsOf (tab3 a)) (wordsOf (tab4 a))
def cn2 : ℕ → Vec F S512x128 .f32 := cnts (in3 a V c) (wordsOf (tab3 a)) (wordsOf (tab4 a))

/-- What the last point leaves in the result's buffer. -/
def result : Vec F S512x128 .f32 :=
  outVal (su1 a V c 10) (cn1 a V c 10) (su2 a V c 10) (cn2 a V c 10)
    (in10 a V c t0_9) (in11 a V c t0_9) (in12 a V c t0_9) (in13 a V c t0_9) (in14 a V c t0_9) (in15 a V c t0_9)

/-- A scratch buffer held at contents that are, after `n ≥ 1` points, `X`. -/
def scratchAt {S : Shape} {e : EltTy} (M : Memref sig .tc .vmem S e) (n : ℕ) (X : Vec F S e) : sProp 𝕄 :=
  iprop(∃ f : Bf (F := F) c M, ⌜n ≠ 0 → M.view.read (Elt F) f = X⌝ ∗ pt c M f)

/-- The invariant after `n` points: the accumulators in the scratch buffers, the tables at half share, the generator register. -/
def inv (n : ℕ) : sProp 𝕄 :=
  iprop(scratchAt c (Memref.whole cc0_scratch0) n (su1 a V c n) ∗ scratchAt c (Memref.whole cc0_scratch1) n (cn1 a V c n)
    ∗ scratchAt c (Memref.whole cc0_scratch2) n (su2 a V c n) ∗ scratchAt c (Memref.whole cc0_scratch3) n (cn2 a V c n)
    ∗ ptq fullShare.right c (Memref.whole main_call0_v8) (a.1 0) ∗ ptq fullShare.right c (Memref.whole main_call0_v15) (a.1 1)
    ∗ ptq fullShare.right c (Memref.whole main_call0_v22) (a.1 2) ∗ ptq fullShare.right c (Memref.whole main_call0_v29) (a.1 3)
    ∗ ∃ r, prngReg c r)

/-- The proof data. -/
def dat : Dat τ (Elt F) Unit ℕ (UR nD τ) ℕ (cfg0 a) c where
  A := arrs a V c
  after w t := held a V c w t
  Φ t := inv a V c t.val
  q _ := fullShare
  owed _ := 0

/-- The result's window is held to a predicate: at the last point its buffer is `result`. -/
def fgt : Fin (cfg0 a).W → Bool
  | ⟨16, _⟩ => true
  | _ => false
def left : (w : Fin (cfg0 a).W) → Fin (cfg0 a).N → (((cfg0 a).win w).block.Idx → Elt F ((cfg0 a).win w).elt) → Prop
  | ⟨16, _⟩ => fun t X => t.val = 9 → X = result a V c
  | _ => fun _ _ => True

theorem isFirst_eq (t : Fin grid0.N) : (isFirst (grid0.coords t) = 1#1) ↔ t.val = 0 := by
  rcases fin_N0 t with rfl | rfl | rfl | rfl | rfl | rfl | rfl | rfl | rfl | rfl <;> decide

theorem isLast_eq (t : Fin grid0.N) : (k0_cond4 (grid0.coords t) = 1#1) ↔ t.val = 9 := by
  rcases fin_N0 t with rfl | rfl | rfl | rfl | rfl | rfl | rfl | rfl | rfl | rfl <;> decide

/-- What the accumulators start a point at is what the points before it left. -/
theorem initSu_eq (t : Fin grid0.N) (rows : Fin grid0.N → FVec F S5000x256 .bf16) (ids : Fin grid0.N → Vec F S1x1x5000 .i32) (base out : Fin grid0.N → BitVec 32)
    (f : Vec F S512x256 .f32) (h : t.val ≠ 0 → f = sums rows ids base out t.val) :
    initSu (grid0.coords t) f = sums rows ids base out t.val := by
  unfold initSu
  by_cases h0 : t.val = 0
  · rw [if_pos ((isFirst_eq t).2 h0), h0]; rfl
  · rw [if_neg (fun h' => h0 ((isFirst_eq t).1 h')), h h0]

theorem initCnt_eq (t : Fin grid0.N) (ids : Fin grid0.N → Vec F S1x1x5000 .i32) (base out : Fin grid0.N → BitVec 32)
    (f : Vec F S512x128 .f32) (h : t.val ≠ 0 → f = cnts ids base out t.val) :
    initCnt (grid0.coords t) f = cnts ids base out t.val := by
  unfold initCnt
  by_cases h0 : t.val = 0
  · rw [if_pos ((isFirst_eq t).2 h0), h0]; rfl
  · rw [if_neg (fun h' => h0 ((isFirst_eq t).1 h')), h h0]

theorem sums_succ (t : Fin grid0.N) (rows : Fin grid0.N → FVec F S5000x256 .bf16) (ids : Fin grid0.N → Vec F S1x1x5000 .i32) (base out : Fin grid0.N → BitVec 32) :
    sums rows ids base out (t.val + 1) = stepSu (rows t) (ids t) (base t) (out t) (sums rows ids base out t.val) := by
  rw [sums, dif_pos t.isLt]

theorem cnts_succ (t : Fin grid0.N) (ids : Fin grid0.N → Vec F S1x1x5000 .i32) (base out : Fin grid0.N → BitVec 32) :
    cnts ids base out (t.val + 1) = stepCnt (ids t) (base t) (out t) (cnts ids base out t.val) := by
  rw [cnts, dif_pos t.isLt]

theorem before_held (w : Fin (cfg0 a).W) (hw : ((cfg0 a).win w).isOut = false) (hi : ∀ i, (cfg0 a).idle w i = false) (t : Fin (cfg0 a).N)
    (d : ((cfg0 a).win w).block.Idx → Elt F ((cfg0 a).win w).elt) : (dat a V c).before w t d = held a V c w t :=
  Dat.before_eq_heldIn (dat a V c) w hw hi (fun _ _ => rfl) (fun _ => rfl) t d

/-- A whole buffer owned at a value is the buffer held whole at contents that read as the value. -/
theorem owns_pt {sp : Space} {S : Shape} {e : EltTy} (M : Memref sig .tc sp S e) (h : M.IsWhole) (X : S.Idx → Elt F e) :
    (owns (c.tc : Thread nD τ) M fullShare X : sProp 𝕄) = iprop(∃ f : Bf (F := F) c M, ⌜M.view.read (Elt F) f = X⌝ ∗ pt c M f) := by
  unfold owns; rw [h.set_eq_univ]

section Next

variable {a V c} {t : Fin grid0.N} {x4 : Vec F S256x256 .bf16} {x5 : Vec F S1x256 .f32} {x6 : Vec F S256x256 .bf16} {x7 x8 : Vec F S1x256 .f32} {x9 : Vec F S1x1 .f32}
variable {x0 x2 : Vec F S5000x256 .f32} {x1 x3 : Vec F S1x1x5000 .i32}

theorem su1_next (h4 : x4 = in4 a V c t) (h6 : x6 = in6 a V c t) (h8 : x8 = in8 a V c t) (h5 : x5 = in5 a V c t)
    (h7 : x7 = in7 a V c t) (h9 : x9 = in9 a V c t) (h0 : x0 = in0 a V c t) (h1 : x1 = in1 a V c t)
    {f : Vec F S512x256 .f32} (hf : t.val ≠ 0 → f = su1 a V c t.val) :
    stepSu (k0_pay17 x4 x6 x8 x5 x7 x9 x0) x1 (wordAt (tab1 a) (grid0.coords t)) (wordAt (tab2 a) (grid0.coords t)) (initSu (grid0.coords t) f)
      = su1 a V c (t.val + 1) := by
  subst h4 h6 h8 h5 h7 h9 h0 h1
  unfold su1; rw [sums_succ, initSu_eq t _ _ _ _ f hf]; rfl

theorem su2_next (h4 : x4 = in4 a V c t) (h6 : x6 = in6 a V c t) (h8 : x8 = in8 a V c t) (h5 : x5 = in5 a V c t)
    (h7 : x7 = in7 a V c t) (h9 : x9 = in9 a V c t) (h2 : x2 = in2 a V c t) (h3 : x3 = in3 a V c t)
    {f : Vec F S512x256 .f32} (hf : t.val ≠ 0 → f = su2 a V c t.val) :
    stepSu (k0_pay17 x4 x6 x8 x5 x7 x9 x2) x3 (wordAt (tab3 a) (grid0.coords t)) (wordAt (tab4 a) (grid0.coords t)) (initSu (grid0.coords t) f)
      = su2 a V c (t.val + 1) := by
  subst h4 h6 h8 h5 h7 h9 h2 h3
  unfold su2; rw [sums_succ, initSu_eq t _ _ _ _ f hf]; rfl

theorem cn1_next (h1 : x1 = in1 a V c t) {f : Vec F S512x128 .f32} (hf : t.val ≠ 0 → f = cn1 a V c t.val) :
    stepCnt x1 (wordAt (tab1 a) (grid0.coords t)) (wordAt (tab2 a) (grid0.coords t)) (initCnt (grid0.coords t) f) = cn1 a V c (t.val + 1) := by
  subst h1
  unfold cn1; rw [cnts_succ, initCnt_eq t _ _ _ f hf]; rfl

theorem cn2_next (h3 : x3 = in3 a V c t) {f : Vec F S512x128 .f32} (hf : t.val ≠ 0 → f = cn2 a V c t.val) :
    stepCnt x3 (wordAt (tab3 a) (grid0.coords t)) (wordAt (tab4 a) (grid0.coords t)) (initCnt (grid0.coords t) f) = cn2 a V c (t.val + 1) := by
  subst h3
  unfold cn2; rw [cnts_succ, initCnt_eq t _ _ _ f hf]; rfl

/-- What the last point leaves in the result's buffer is `result`. -/
theorem left_next {s1 s2 : Vec F S512x256 .f32} {k1 k2 : Vec F S512x128 .f32} {g r : Vec F S512x128 .f32}
    {y0 : Vec F S512x256 .f32} {y1 : Vec F S1x256 .f32} {y2 : Vec F S256x256 .f32} {y3 : Vec F S1x256 .f32} {y4 : Vec F S256x128 .f32} {y5 : Vec F S1x128 .f32}
    (hg : g = if k0_cond4 (grid0.coords t) = 1#1 then outVal s1 k1 s2 k2 y0 y1 y2 y3 y4 y5 else r)
    (e1 : s1 = su1 a V c (t.val + 1)) (e2 : k1 = cn1 a V c (t.val + 1)) (e3 : s2 = su2 a V c (t.val + 1)) (e4 : k2 = cn2 a V c (t.val + 1))
    (h0 : y0 = in10 a V c t) (h1 : y1 = in11 a V c t) (h2 : y2 = in12 a V c t) (h3 : y3 = in13 a V c t) (h4 : y4 = in14 a V c t)
    (h5 : y5 = in15 a V c t) (ht : t.val = 9) : g = result a V c := by
  obtain rfl : t = t0_9 := Fin.ext ht
  rw [if_pos ((isLast_eq _).2 ht)] at hg
  rw [hg, e1, e2, e3, e4, h0, h1, h2, h3, h4, h5]; rfl

end Next

set_option maxHeartbeats 2000000 in
theorem body_obligation (hchk : ∀ t, k0_chk1 (wordsOf (tab1 a) t)) (hchk2 : ∀ t, k0_chk1 (wordsOf (tab3 a) t)) :
    Pipeline.BodyObligationRel (dat a V c) (defs₀ (F := F)) Variants.none () Set.univ (fgt a) (left a V c) := fun t => by
  rw [show defs₀ (F := F) Proc.tc (cfg0 a).body ((cfg0 a).bodyArgs t ((cfg0 a).slots t)) = cc0__pool_body (grid0.coords t) (Memref.whole main_call0_v8) (Memref.isWhole_whole _) (Memref.whole main_call0_v15) (Memref.isWhole_whole _)
    (Memref.whole main_call0_v22) (Memref.isWhole_whole _) (Memref.whole main_call0_v29) (Memref.isWhole_whole _)
    (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (spec0_11.stage ((cfg0 a).slots t 11)) (hstage0_11 (((cfg0 a).slots t 11).cast nbuf0_11)) (spec0_12.stage ((cfg0 a).slots t 12)) (hstage0_12 (((cfg0 a).slots t 12).cast nbuf0_12)) (spec0_13.stage ((cfg0 a).slots t 13)) (hstage0_13 (((cfg0 a).slots t 13).cast nbuf0_13)) (spec0_14.stage ((cfg0 a).slots t 14)) (hstage0_14 (((cfg0 a).slots t 14).cast nbuf0_14)) (spec0_15.stage ((cfg0 a).slots t 15)) (hstage0_15 (((cfg0 a).slots t 15).cast nbuf0_15)) (spec0_16.stage ((cfg0 a).slots t 16)) (hstage0_16 (((cfg0 a).slots t 16).cast nbuf0_16)) (Memref.whole cc0_scratch0) (Memref.isWhole_whole _) (Memref.whole cc0_scratch1) (Memref.isWhole_whole _)
    (Memref.whole cc0_scratch2) (Memref.isWhole_whole _) (Memref.whole cc0_scratch3) (Memref.isWhole_whole _) from rfl]
  rw [bigSep_W0, bigSep_W0]
  rw [show (dat a V c).Φ t.castSucc = inv a V c t.val from rfl, show (dat a V c).Φ t.succ = inv a V c (t.val + 1) from rfl,
    show (dat a V c).owesAt () t.succ = (dat a V c).owesAt () t.castSucc from rfl]
  simp only [show fgt a 0 = false from rfl, show fgt a 1 = false from rfl, show fgt a 2 = false from rfl, show fgt a 3 = false from rfl, show fgt a 4 = false from rfl, show fgt a 5 = false from rfl, show fgt a 6 = false from rfl, show fgt a 7 = false from rfl, show fgt a 8 = false from rfl, show fgt a 9 = false from rfl, show fgt a 10 = false from rfl, show fgt a 11 = false from rfl, show fgt a 12 = false from rfl, show fgt a 13 = false from rfl, show fgt a 14 = false from rfl, show fgt a 15 = false from rfl, show fgt a 16 = true from rfl]
  simp only [owns_pt c (stage0_0 ((cfg0 a).slots t 0)) (hstage0_0 (((cfg0 a).slots t 0).cast nbuf0_0)),
    owns_pt c (stage0_1 ((cfg0 a).slots t 1)) (hstage0_1 (((cfg0 a).slots t 1).cast nbuf0_1)),
    owns_pt c (stage0_2 ((cfg0 a).slots t 2)) (hstage0_2 (((cfg0 a).slots t 2).cast nbuf0_2)),
    owns_pt c (stage0_3 ((cfg0 a).slots t 3)) (hstage0_3 (((cfg0 a).slots t 3).cast nbuf0_3)),
    owns_pt c (stage0_4 ((cfg0 a).slots t 4)) (hstage0_4 (((cfg0 a).slots t 4).cast nbuf0_4)),
    owns_pt c (stage0_5 ((cfg0 a).slots t 5)) (hstage0_5 (((cfg0 a).slots t 5).cast nbuf0_5)),
    owns_pt c (stage0_6 ((cfg0 a).slots t 6)) (hstage0_6 (((cfg0 a).slots t 6).cast nbuf0_6)),
    owns_pt c (stage0_7 ((cfg0 a).slots t 7)) (hstage0_7 (((cfg0 a).slots t 7).cast nbuf0_7)),
    owns_pt c (stage0_8 ((cfg0 a).slots t 8)) (hstage0_8 (((cfg0 a).slots t 8).cast nbuf0_8)),
    owns_pt c (stage0_9 ((cfg0 a).slots t 9)) (hstage0_9 (((cfg0 a).slots t 9).cast nbuf0_9)),
    owns_pt c (stage0_10 ((cfg0 a).slots t 10)) (hstage0_10 (((cfg0 a).slots t 10).cast nbuf0_10)),
    owns_pt c (stage0_11 ((cfg0 a).slots t 11)) (hstage0_11 (((cfg0 a).slots t 11).cast nbuf0_11)),
    owns_pt c (stage0_12 ((cfg0 a).slots t 12)) (hstage0_12 (((cfg0 a).slots t 12).cast nbuf0_12)),
    owns_pt c (stage0_13 ((cfg0 a).slots t 13)) (hstage0_13 (((cfg0 a).slots t 13).cast nbuf0_13)),
    owns_pt c (stage0_14 ((cfg0 a).slots t 14)) (hstage0_14 (((cfg0 a).slots t 14).cast nbuf0_14)),
    owns_pt c (stage0_15 ((cfg0 a).slots t 15)) (hstage0_15 (((cfg0 a).slots t 15).cast nbuf0_15)),
    owns_pt c (stage0_16 ((cfg0 a).slots t 16)) (hstage0_16 (((cfg0 a).slots t 16).cast nbuf0_16))]
  unfold inv scratchAt
  iintro ⟨⟨⟨%f22, %hf22, H22⟩, ⟨%f23, %hf23, H23⟩, ⟨%f24, %hf24, H24⟩, ⟨%f25, %hf25, H25⟩, T1, T2, T3, T4, Hg⟩, Howes,
    ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩, ⟨%d8, %f8, %hf8, H8⟩, ⟨%d9, %f9, %hf9, H9⟩, ⟨%d10, %f10, %hf10, H10⟩, ⟨%d11, %f11, %hf11, H11⟩, ⟨%d12, %f12, %hf12, H12⟩, ⟨%d13, %f13, %hf13, H13⟩, ⟨%d14, %f14, %hf14, H14⟩, ⟨%d15, %f15, %hf15, H15⟩, ⟨%d16, -, %f16, -, H16⟩⟩
  replace hf0 : (stage0_0 ((cfg0 a).slots t 0)).view.read (Elt F) f0 = in0 a V c t := hf0.trans (before_held a V c 0 rfl (fun _ => rfl) t d0)
  replace hf1 : (stage0_1 ((cfg0 a).slots t 1)).view.read (Elt F) f1 = in1 a V c t := hf1.trans (before_held a V c 1 rfl (fun _ => rfl) t d1)
  replace hf2 : (stage0_2 ((cfg0 a).slots t 2)).view.read (Elt F) f2 = in2 a V c t := hf2.trans (before_held a V c 2 rfl (fun _ => rfl) t d2)
  replace hf3 : (stage0_3 ((cfg0 a).slots t 3)).view.read (Elt F) f3 = in3 a V c t := hf3.trans (before_held a V c 3 rfl (fun _ => rfl) t d3)
  replace hf4 : (stage0_4 ((cfg0 a).slots t 4)).view.read (Elt F) f4 = in4 a V c t := hf4.trans (before_held a V c 4 rfl (fun _ => rfl) t d4)
  replace hf5 : (stage0_5 ((cfg0 a).slots t 5)).view.read (Elt F) f5 = in5 a V c t := hf5.trans (before_held a V c 5 rfl (fun _ => rfl) t d5)
  replace hf6 : (stage0_6 ((cfg0 a).slots t 6)).view.read (Elt F) f6 = in6 a V c t := hf6.trans (before_held a V c 6 rfl (fun _ => rfl) t d6)
  replace hf7 : (stage0_7 ((cfg0 a).slots t 7)).view.read (Elt F) f7 = in7 a V c t := hf7.trans (before_held a V c 7 rfl (fun _ => rfl) t d7)
  replace hf8 : (stage0_8 ((cfg0 a).slots t 8)).view.read (Elt F) f8 = in8 a V c t := hf8.trans (before_held a V c 8 rfl (fun _ => rfl) t d8)
  replace hf9 : (stage0_9 ((cfg0 a).slots t 9)).view.read (Elt F) f9 = in9 a V c t := hf9.trans (before_held a V c 9 rfl (fun _ => rfl) t d9)
  replace hf10 : (stage0_10 ((cfg0 a).slots t 10)).view.read (Elt F) f10 = in10 a V c t := hf10.trans (before_held a V c 10 rfl (fun _ => rfl) t d10)
  replace hf11 : (stage0_11 ((cfg0 a).slots t 11)).view.read (Elt F) f11 = in11 a V c t := hf11.trans (before_held a V c 11 rfl (fun _ => rfl) t d11)
  replace hf12 : (stage0_12 ((cfg0 a).slots t 12)).view.read (Elt F) f12 = in12 a V c t := hf12.trans (before_held a V c 12 rfl (fun _ => rfl) t d12)
  replace hf13 : (stage0_13 ((cfg0 a).slots t 13)).view.read (Elt F) f13 = in13 a V c t := hf13.trans (before_held a V c 13 rfl (fun _ => rfl) t d13)
  replace hf14 : (stage0_14 ((cfg0 a).slots t 14)).view.read (Elt F) f14 = in14 a V c t := hf14.trans (before_held a V c 14 rfl (fun _ => rfl) t d14)
  replace hf15 : (stage0_15 ((cfg0 a).slots t 15)).view.read (Elt F) f15 = in15 a V c t := hf15.trans (before_held a V c 15 rfl (fun _ => rfl) t d15)
  have h0 := su1_next hf4 hf6 hf8 hf5 hf7 hf9 hf0 hf1 hf22
  have h1 := cn1_next hf1 hf23
  have h2 := su2_next hf4 hf6 hf8 hf5 hf7 hf9 hf2 hf3 hf24
  have h3 := cn2_next hf3 hf25
  iapply (body_run c (grid0.coords t) (Memref.whole main_call0_v8) (Memref.isWhole_whole _) (Memref.whole main_call0_v15) (Memref.isWhole_whole _)
    (Memref.whole main_call0_v22) (Memref.isWhole_whole _) (Memref.whole main_call0_v29) (Memref.isWhole_whole _)
    (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (spec0_11.stage ((cfg0 a).slots t 11)) (hstage0_11 (((cfg0 a).slots t 11).cast nbuf0_11)) (spec0_12.stage ((cfg0 a).slots t 12)) (hstage0_12 (((cfg0 a).slots t 12).cast nbuf0_12)) (spec0_13.stage ((cfg0 a).slots t 13)) (hstage0_13 (((cfg0 a).slots t 13).cast nbuf0_13)) (spec0_14.stage ((cfg0 a).slots t 14)) (hstage0_14 (((cfg0 a).slots t 14).cast nbuf0_14)) (spec0_15.stage ((cfg0 a).slots t 15)) (hstage0_15 (((cfg0 a).slots t 15).cast nbuf0_15)) (spec0_16.stage ((cfg0 a).slots t 16)) (hstage0_16 (((cfg0 a).slots t 16).cast nbuf0_16)) (Memref.whole cc0_scratch0) (Memref.isWhole_whole _) (Memref.whole cc0_scratch1) (Memref.isWhole_whole _)
    (Memref.whole cc0_scratch2) (Memref.isWhole_whole _) (Memref.whole cc0_scratch3) (Memref.isWhole_whole _)
    fullShare.right (a.1 0) (a.1 1) (a.1 2) (a.1 3) f0 f1 f2 f3 f4 f5 f6 f7 f8 f9 f10 f11 f12 f13 f14 f15 f16 f22 f23 f24 f25 (hchk t) (hchk2 t) Set.univ _)
  isplitl [T1]; · iexact T1
  isplitl [T2]; · iexact T2
  isplitl [T3]; · iexact T3
  isplitl [T4]; · iexact T4
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H22]; · iexact H22
  isplitl [H23]; · iexact H23
  isplitl [H24]; · iexact H24
  isplitl [H25]; · iexact H25
  iintro ⟨T1, T2, T3, T4, H0, H1, H2, H3, H4, H5, H6, H7, H8, H9, H10, H11, H12, H13, H14, H15, ⟨%g16, %hg16, H16⟩, ⟨%g22, %hg22, H22⟩, ⟨%g23, %hg23, H23⟩, ⟨%g24, %hg24, H24⟩, ⟨%g25, %hg25, H25⟩⟩
  isplitl [H22 H23 H24 H25 T1 T2 T3 T4 Hg]
  · isplitl [H22]; · iexists g22; isplitr; swap; (· iexact H22); ipureintro; exact fun _ => hg22.trans h0
    isplitl [H23]; · iexists g23; isplitr; swap; (· iexact H23); ipureintro; exact fun _ => hg23.trans h1
    isplitl [H24]; · iexists g24; isplitr; swap; (· iexact H24); ipureintro; exact fun _ => hg24.trans h2
    isplitl [H25]; · iexists g25; isplitr; swap; (· iexact H25); ipureintro; exact fun _ => hg25.trans h3
    isplitl [T1]; · iexact T1
    isplitl [T2]; · iexact T2
    isplitl [T3]; · iexact T3
    isplitl [T4]; · iexact T4
    iexact Hg
  isplitl [Howes]; · iexact Howes
  isplitl [H0]; · iexists f0; isplitr; swap; (· iexact H0); ipureintro; exact hf0
  isplitl [H1]; · iexists f1; isplitr; swap; (· iexact H1); ipureintro; exact hf1
  isplitl [H2]; · iexists f2; isplitr; swap; (· iexact H2); ipureintro; exact hf2
  isplitl [H3]; · iexists f3; isplitr; swap; (· iexact H3); ipureintro; exact hf3
  isplitl [H4]; · iexists f4; isplitr; swap; (· iexact H4); ipureintro; exact hf4
  isplitl [H5]; · iexists f5; isplitr; swap; (· iexact H5); ipureintro; exact hf5
  isplitl [H6]; · iexists f6; isplitr; swap; (· iexact H6); ipureintro; exact hf6
  isplitl [H7]; · iexists f7; isplitr; swap; (· iexact H7); ipureintro; exact hf7
  isplitl [H8]; · iexists f8; isplitr; swap; (· iexact H8); ipureintro; exact hf8
  isplitl [H9]; · iexists f9; isplitr; swap; (· iexact H9); ipureintro; exact hf9
  isplitl [H10]; · iexists f10; isplitr; swap; (· iexact H10); ipureintro; exact hf10
  isplitl [H11]; · iexists f11; isplitr; swap; (· iexact H11); ipureintro; exact hf11
  isplitl [H12]; · iexists f12; isplitr; swap; (· iexact H12); ipureintro; exact hf12
  isplitl [H13]; · iexists f13; isplitr; swap; (· iexact H13); ipureintro; exact hf13
  isplitl [H14]; · iexists f14; isplitr; swap; (· iexact H14); ipureintro; exact hf14
  isplitl [H15]; · iexists f15; isplitr; swap; (· iexact H15); ipureintro; exact hf15
  iexists _; isplitr; swap
  · iexists g16; isplitr; swap; (· iexact H16); ipureintro; rfl
  ipureintro
  exact left_next hg16 h0 h1 h2 h3 hf10 hf11 hf12 hf13 hf14 hf15

end Cert.Proof

end
-- ==== Proof.Launch.lean ====
/-
  The run of the whole program: the host prefix, then the pallas_call.
-/
module

public import proofs.«01_k».proof.Proof.Run

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window)

variable {F : FTy → Type} [FloatOps F]

local notation "𝕄" => MT nD τ sig Unit (Elt F) ℕ (UR nD τ) ℕ

variable (m : (ℓ : Loc nD τ sig) → Buf (Elt F) ℓ)

/-- The buffers when the call begins: what the host prefix leaves. -/
def entryOf : Entry (F := F) := fun c b => StableHlo.after hostOps0 (fun b => m (c, b)) b

/-- The tables when the call begins. -/
def tabsOf : (pcfg0 (F := F)).Adm := ⟨fun k => entryOf m 0 (pre0.ref k), trivial⟩

theorem hostOps0_fresh : (hostOps0 : List (HloOp τ sig (Elt F))).Forall fun op => op.fresh = ∅ := by
  simp only [List.forall_cons, hostOps0]
  repeat' constructor

/-- The tables at half share, one by one. -/
theorem tables_eq (a : (pcfg0 (F := F)).Adm) (c : Dev nD) : (Pipeline.ΦT (U := UR nD τ) pre0 a.1 c : sProp 𝕄)
    = iprop(ptq fullShare.right c (Memref.whole main_call0_v8) (a.1 0) ∗ ptq fullShare.right c (Memref.whole main_call0_v15) (a.1 1)
      ∗ ptq fullShare.right c (Memref.whole main_call0_v22) (a.1 2) ∗ ptq fullShare.right c (Memref.whole main_call0_v29) (a.1 3)) := by
  unfold Pipeline.ΦT Pipeline.prefHeld
  rw [show (Finset.univ : Finset (Fin pre0.K)) = {0, 1, 2, 3} from rfl, bigSep_insert (by decide), bigSep_insert (by decide), bigSep_insert (by decide), bigSep_singleton]
  rfl

/-- The relational proof data the launch takes. -/
def rdat (a : (pcfg0 (F := F)).Adm) (V : Entry (F := F)) (c : Dev nD) : RDat τ (Elt F) Unit ℕ (UR nD τ) ℕ (cfg0 a) c :=
  (dat a V c).toRRel (fgt a) (left a V c)

theorem hin (a : (pcfg0 (F := F)).Adm) (V : Entry (F := F)) (c : Dev nD) :
    iprop(Pipeline.ΦA (cfg0 a).spec c ∗ Pipeline.ΦT pre0 a.1 c) ⊢ inv a V c 0 := by
  unfold Pipeline.ΦA
  rw [show Pipeline.scopedRest (Ix := Unit) (Name := ℕ) (U := UR nD τ) (Lvl := ℕ) (Val := Elt F) (cfg0 a).spec c = Pipeline.scopedRest spec0 c from rfl,
    scopedRest0_eq]
  rw [tables_eq]
  unfold inv scratchAt
  iintro ⟨⟨⟨⟨%f0, H0⟩, ⟨%f1, H1⟩, ⟨%f2, H2⟩, ⟨%f3, H3⟩⟩, Hg⟩, T1, T2, T3, T4⟩
  isplitl [H0]; · iexists f0; isplitr; swap; (· iexact H0); ipureintro; exact fun h => absurd rfl h
  isplitl [H1]; · iexists f1; isplitr; swap; (· iexact H1); ipureintro; exact fun h => absurd rfl h
  isplitl [H2]; · iexists f2; isplitr; swap; (· iexact H2); ipureintro; exact fun h => absurd rfl h
  isplitl [H3]; · iexists f3; isplitr; swap; (· iexact H3); ipureintro; exact fun h => absurd rfl h
  isplitl [T1]; · iexact T1
  isplitl [T2]; · iexact T2
  isplitl [T3]; · iexact T3
  isplitl [T4]; · iexact T4
  iexact Hg

theorem hout (a : (pcfg0 (F := F)).Adm) (V : Entry (F := F)) (c : Dev nD) (n : ℕ) :
    inv a V c n ⊢ Pipeline.ΦA (cfg0 a).spec c := by
  unfold Pipeline.ΦA
  rw [show Pipeline.scopedRest (Ix := Unit) (Name := ℕ) (U := UR nD τ) (Lvl := ℕ) (Val := Elt F) (cfg0 a).spec c = Pipeline.scopedRest spec0 c from rfl,
    scopedRest0_eq]
  unfold inv scratchAt
  iintro ⟨⟨%f0, -, H0⟩, ⟨%f1, -, H1⟩, ⟨%f2, -, H2⟩, ⟨%f3, -, H3⟩, -, -, -, -, Hg⟩
  isplitr [Hg]
  · isplitl [H0]; · iexists f0; iexact H0
    isplitl [H1]; · iexists f1; iexact H1
    isplitl [H2]; · iexists f2; iexact H2
    iexists f3; iexact H3
  iexact Hg

/-- Every weakly fair execution ends; every array of the call is then as its proof data say, every other unscoped buffer as the
    host prefix left it, and every counter is at zero. -/
theorem run_main (g : Dev nD → PrngReg) (hchk : ∀ t, k0_chk1 (wordsOf (tab1 (tabsOf m)) t)) (hchk2 : ∀ t, k0_chk1 (wordsOf (tab3 (tabsOf m)) t)) :
    θ_run (defs (F := F)) (onTc (τ := τ) (main (F := F))) ⟨m, fun _ => 0, g⟩
      (fun r => RDat.FramePost (cfg0 (tabsOf m)) (rdat (tabsOf m) (entryOf m)) (entryOf m) r ∧ r.2.sem = fun _ => 0) :=
  RDat.θ_run_frameP_track (Q' := _) pcfgs (fun _ => tabsOf m) 0 launch0 defs₀ Variants.none (rdat (tabsOf m) (entryOf m)) m g main
    (fun c => Pipeline.BodyObligationRel.toRRel _ (body_obligation (tabsOf m) (entryOf m) c hchk hchk2))
    (fun c w => by unfold rdat; rw [Dat.toRRel_share]; unfold Dat.share; split <;> rfl)
    (fun _ _ => rfl) (entryOf m)
    (Pipeline.hmainP_prefix pcfgs 0 defs₀ Variants.none m main hostOps0 hostOps0_sub hostOps0_fresh main_chain)
    (fun _ _ => rfl)
    (fun c k => by obtain rfl : c = 0 := Subsingleton.elim _ _; rfl)
    (hin (tabsOf m) (entryOf m)) (fun c => hout (tabsOf m) (entryOf m) c _)

end Cert.Proof

end
-- ==== Proof.Words.lean ====
/-
  The host's words: per block of 5000 ids, the first segment of the block's window and how many of its ids lie past the window.
-/
module

public import proofs.«01_k».proof.Proof.Gen.KernelIdeal
public import Idealize.ShloMosaic.Lib.WordArith
public import Idealize.ShloMosaic.Lib.WordCmp
public import Idealize.ShloMosaic.Lib.Pointwise
public import Idealize.ShloMosaic.Lib.IndicatorCount
public import Idealize.ShloMosaic.PureOps.Reduce
public import Idealize.ShloMosaic.Lib.SortNet.Extract

@[expose] public section

noncomputable section

namespace Cert.Proof

open Cert.KernelIdeal Cert.KernelIdeal.Gen
open Idealize.ShloMosaic

/-- The ids as ten blocks of 5000. -/
def blocks (ids : IVec S50000 32) : IVec S10x5000 32 := shapeCast S10x5000 ids shapeCasts_S50000_S10x5000

/-- The least id of each block. -/
def mins (ids : IVec S50000 32) : IVec S10 32 := Host.reduce IntOp.minsi (blocks ids) (constantI S_ 32 2147483647#32) reducesTo_S10x5000_S10_d1 h_S_

/-- A word for every block. -/
def all (k : BitVec 32) : IVec S10 32 := broadcastInDim S10 ![] bcast_S_S10 (constantI S_ 32 k)

/-- The block's least id divided by eight, rounded down. -/
def eighth (v : IVec S10 32) : IVec S10 32 :=
  select (andi (cmpi .ne (signi v) (broadcastInDim S10 ![] bcast_S_S10 (signi (constantI S_ 32 8#32)))) (cmpi .ne (Host.remsi v (all 8#32)) (all 0#32)))
    (subi (Host.divsi v (all 8#32)) (all 1#32)) (Host.divsi v (all 8#32))

/-- The first segment of each block's window. -/
def bases (ids : IVec S50000 32) : IVec S10 32 := minsi (muli (eighth (mins ids)) (all 8#32)) (all 448#32)

/-- How many ids of each block lie past its window. -/
def outs (ids : IVec S50000 32) : IVec S10 32 :=
  Host.reduce IntOp.addi (extui 32 (cmpi .sge (subi (blocks ids) (broadcastInDim S10x5000 ![0, 1] bcast_S10x1_S10x5000_0_1 (broadcastInDim S10x1 ![0] bcast_S10_S10x1_0 (bases ids))))
      (broadcastInDim S10x5000 ![] bcast_S_S10x5000 (constantI S_ 32 64#32))) natLt_1_32)
    (constantI S_ 32 0#32) reducesTo_S10x5000_S10_d1 h_S_

/-- The id of row `k` of block `t`. -/
def idAt (ids : IVec S50000 32) (t : Fin 10) (k : Fin 5000) : BitVec 32 := ids (ix1 ⟨t.val * 5000 + k.val, by omega⟩)

theorem blocks_at (ids : IVec S50000 32) (t : Fin 10) (k : Fin 5000) : blocks ids (ix2 t k) = idAt ids t k := by
  pointwise [blocks, idAt]

/-- The index of a block's row among the block's rows. -/
theorem lift_eq (h : S10x5000.Reduces [1] S10) (t : Fin 10) (k : Fin (S10x5000.size 1)) : h.lift (ix1 t) k = ix2 t k := by
  funext c
  apply Fin.ext
  rw [Shape.Reduces.lift_val]
  fin_cases c <;> rfl

/-- A minimum over a list is at most the start and at most each of the values. -/
theorem foldl_minsi_le {ι : Type} (x : ι → BitVec 32) (l : List ι) (a : BitVec 32) :
    (l.foldl (fun r i => IntOp.minsi r (x i)) a).toInt ≤ a.toInt ∧ ∀ i ∈ l, (l.foldl (fun r i => IntOp.minsi r (x i)) a).toInt ≤ (x i).toInt := by
  induction l generalizing a with
  | nil => simp
  | cons b l ih =>
    obtain ⟨h1, h2⟩ := ih (IntOp.minsi a (x b))
    rw [SortNet.toInt_minsi] at h1
    refine ⟨h1.trans (min_le_left _ _), fun i hi => ?_⟩
    rcases List.mem_cons.1 hi with rfl | hi
    · exact h1.trans (min_le_right _ _)
    · exact h2 i hi

/-- A minimum of values that are not negative is not negative. -/
theorem foldl_minsi_nonneg {ι : Type} (x : ι → BitVec 32) (hx : ∀ i, 0 ≤ (x i).toInt) (l : List ι) (a : BitVec 32) (ha : 0 ≤ a.toInt) :
    0 ≤ (l.foldl (fun r i => IntOp.minsi r (x i)) a).toInt := by
  induction l generalizing a with
  | nil => exact ha
  | cons b l ih => exact ih _ (by rw [SortNet.toInt_minsi]; exact le_min ha (hx b))

variable {ids : IVec S50000 32}

theorem mins_nonneg (h : ∀ i, 0 ≤ (ids i).toInt) (t : Fin 10) : 0 ≤ (mins ids (ix1 t)).toInt := by
  unfold mins
  rw [Host.reduce_eq_foldl]
  exact foldl_minsi_nonneg _ (fun i => h _) _ _ (by decide)

theorem mins_le (ids : IVec S50000 32) (t : Fin 10) (k : Fin 5000) : (mins ids (ix1 t)).toInt ≤ (idAt ids t k).toInt := by
  unfold mins
  rw [Host.reduce_eq_foldl, ← blocks_at]
  have hr : S10x5000.Reduces [1] S10 := by decide
  refine (foldl_minsi_le (blocks ids) _ _).2 (ix2 t k) (List.mem_filter.2 ⟨?_, ?_⟩)
  · exact List.mem_map.2 ⟨S10x5000.rowMajor (ix2 t k), List.mem_finRange _, by simp⟩
  · rw [decide_eq_true_iff, Shape.ReducesTo.drop_eq_drop _ hr]
    exact (congrArg hr.drop (lift_eq hr t k)).symm.trans (hr.drop_lift (ix1 t) k)

/-- The sign of a word. -/
def sgn (x : BitVec 32) : BitVec 32 := if x = 0 then 0 else if x.msb then -1 else 1

/-- The chain from a block's least id to its window's first segment. -/
theorem window_word (x : BitVec 32) (hx : 0 ≤ x.toInt) :
    (IntOp.minsi (IntOp.muli (Scalar.select (IntOp.andi (IntOp.cmpi .ne (sgn x) (sgn 8#32)) (IntOp.cmpi .ne (IntOp.remsi .host x 8#32) 0#32))
      (IntOp.subi (IntOp.divsi .host x 8#32) 1#32) (IntOp.divsi .host x 8#32)) 8#32) 448#32).toNat = min (x.toNat / 8 * 8) 448 := by
  have hlt : x.toNat < 2 ^ 31 := (WordCmp.toInt_nonneg_iff_lt_half x).1 hx
  have hmsb : x.msb = false := by rw [BitVec.msb_eq_false_iff_two_mul_lt]; omega
  have hc : ¬ IntOp.SDivCorner x 8#32 := by
    rintro (h | ⟨-, h⟩) <;> exact absurd h (by decide)
  have hd : IntOp.divsi .host x 8#32 = x / 8#32 := by
    unfold IntOp.divsi
    rw [if_neg hc, BitVec.sdiv, hmsb]
    rfl
  have hr : IntOp.remsi .host x 8#32 = x % 8#32 := by
    unfold IntOp.remsi
    rw [if_neg hc, BitVec.srem, hmsb]
    rfl
  have hcond : IntOp.andi (IntOp.cmpi .ne (sgn x) (1#32)) (IntOp.cmpi .ne (x % 8#32) 0#32) = 0#1 := by
    by_cases h0 : x = 0
    · subst h0; decide
    · unfold sgn
      rw [if_neg h0, hmsb, if_neg Bool.false_ne_true]
      show (0#1 &&& _) = 0#1
      simp
  rw [hd, hr, show sgn 8#32 = 1#32 from by decide, hcond, WordCmp.select_zero]
  have hq : (x / 8#32).toNat = x.toNat / 8 := by simp
  have hm : (IntOp.muli (x / 8#32) 8#32).toNat = x.toNat / 8 * 8 := by
    show (x / 8#32 * 8#32).toNat = _
    rw [BitVec.toNat_mul, hq]
    exact Nat.mod_eq_of_lt (by show x.toNat / 8 * 8 < 2 ^ 32; omega)
  rw [WordArith.toNat_minsi_of_lt _ _ (by rw [hm]; omega) (by decide), hm]
  rfl

theorem bases_toNat (h : ∀ i, 0 ≤ (ids i).toInt) (t : Fin 10) : (bases ids (ix1 t)).toNat = min ((mins ids (ix1 t)).toNat / 8 * 8) 448 := by
  have h0 := mins_nonneg h t
  unfold bases
  generalize mins ids = v at h0 ⊢
  refine Eq.trans (congrArg BitVec.toNat ?_) (window_word (v (ix1 t)) h0)
  simp only [eighth, all, signi, minsi, muli, select, andi, cmpi, subi, Host.remsi, Host.divsi, WordCmp.broadcastInDim_constantI, constantI]
  rfl

theorem bases_dvd (h : ∀ i, 0 ≤ (ids i).toInt) (t : Fin 10) : 8 ∣ (bases ids (ix1 t)).toNat := by
  rw [bases_toNat h]; omega

theorem bases_le (h : ∀ i, 0 ≤ (ids i).toInt) (t : Fin 10) : (bases ids (ix1 t)).toNat ≤ 448 := by
  rw [bases_toNat h]; omega

theorem idAt_lt (h : ∀ i, 0 ≤ (ids i).toInt) (t : Fin 10) (k : Fin 5000) : (idAt ids t k).toNat < 2 ^ 31 :=
  (WordCmp.toInt_nonneg_iff_lt_half _).1 (h _)

theorem bases_le_id (h : ∀ i, 0 ≤ (ids i).toInt) (t : Fin 10) (k : Fin 5000) : (bases ids (ix1 t)).toNat ≤ (idAt ids t k).toNat := by
  have h1 := mins_le ids t k
  rw [WordCmp.toInt_eq_toNat_of_lt_half ((WordCmp.toInt_nonneg_iff_lt_half _).1 (mins_nonneg h t)), WordCmp.toInt_eq_toNat_of_lt_half (idAt_lt h t k)] at h1
  rw [bases_toNat h]; omega

/-- An id lies past its block's window exactly when it is at least 64 past the window's first segment. -/
theorem sge_sub (h : ∀ i, 0 ≤ (ids i).toInt) (t : Fin 10) (k : Fin 5000) :
    IntOp.cmpi .sge (IntOp.subi (idAt ids t k) (bases ids (ix1 t))) 64#32 = 1#1 ↔ (bases ids (ix1 t)).toNat + 64 ≤ (idAt ids t k).toNat := by
  have h1 := bases_le_id h t k
  have h2 := idAt_lt h t k
  have e : (IntOp.subi (idAt ids t k) (bases ids (ix1 t))).toNat = (idAt ids t k).toNat - (bases ids (ix1 t)).toNat := by
    show (idAt ids t k - bases ids (ix1 t)).toNat = _
    rw [BitVec.toNat_sub]; omega
  have e2 : (IntOp.subi (idAt ids t k) (bases ids (ix1 t))).toInt = _ := WordCmp.toInt_eq_toNat_of_lt_half (by rw [e]; omega)
  rw [WordCmp.cmpi_sge_eq, WordCmp.ofBool_decide_eq_one_iff, e2, e]
  show ((64 : Int)) ≤ _ ↔ _
  omega

/-- The count of a block's ids past its window. -/
theorem outs_eq (ids : IVec S50000 32) (t : Fin 10) : outs ids (ix1 t)
    = BitVec.ofNat 32 ((Finset.univ : Finset (Fin 5000)).filter fun k => IntOp.cmpi .sge (IntOp.subi (idAt ids t k) (bases ids (ix1 t))) 64#32 = 1#1).card := by
  have hr : S10x5000.Reduces [1] S10 := by decide
  unfold outs
  rw [Host.reduce_eq_fold_single _ _ _ _ hr, ← IndicatorCount.fold_addi_setWidth_eq_card]
  refine congrArg (fun f : Fin 5000 → BitVec 32 => (Finset.univ : Finset (Fin 5000)).fold IntOp.addi 0#32 f) (funext fun k => ?_)
  refine Eq.trans ?_ (congrArg (fun w => BitVec.setWidth 32 (IntOp.cmpi .sge (IntOp.subi w (bases ids (ix1 t))) 64#32)) (blocks_at ids t k))
  generalize bases ids = b
  refine (congrArg (extui 32 _ natLt_1_32) (lift_eq hr t k)).trans ?_
  pointwise

/-- Some id of the block lies past the window exactly when the count is positive. -/
theorem outs_pos (h : ∀ i, 0 ≤ (ids i).toInt) (t : Fin 10) :
    0 < (outs ids (ix1 t)).toInt ↔ ∃ k, (bases ids (ix1 t)).toNat + 64 ≤ (idAt ids t k).toNat := by
  have hc : ((Finset.univ : Finset (Fin 5000)).filter fun k => IntOp.cmpi .sge (IntOp.subi (idAt ids t k) (bases ids (ix1 t))) 64#32 = 1#1).card ≤ 5000 :=
    (Finset.card_le_univ _).trans (by simp)
  rw [outs_eq, WordCmp.toInt_ofNat_of_lt (by omega)]
  rw [show ∀ n : ℕ, (0 : Int) < (n : Int) ↔ 0 < n from fun n => by omega, Finset.card_pos]
  constructor
  · rintro ⟨k, hk⟩; exact ⟨k, (sge_sub h t k).1 (Finset.mem_filter.1 hk).2⟩
  · rintro ⟨k, hk⟩; exact ⟨k, Finset.mem_filter.2 ⟨Finset.mem_univ _, (sge_sub h t k).2 hk⟩⟩

end Cert.Proof

end
-- ==== Proof.Tables.lean ====
/-
  What the host prefix leaves in the call's operands: the four tables of ten words (per block of 5000 ids, the first segment of the
  block's window, and how many of its ids lie past the window), the reshaped ids and biases, and the narrowed weights.
-/
module

public import proofs.«01_k».proof.Proof.Launch
public import proofs.«01_k».proof.Proof.Words
public import Idealize.ShloMosaic.Lib.StableHlo.RunRead

@[expose] public section

noncomputable section

namespace Cert.Proof

open Cert.KernelIdeal Cert.KernelIdeal.Gen
open Idealize.ShloMosaic
open Idealize.ShloMosaic.TcCoe

variable {F : FTy → Type} [FloatOps F]

variable (m : (ℓ : Loc nD τ sig) → Buf (Elt F) ℓ)

set_option maxHeartbeats 0 in set_option maxRecDepth 65536 in
theorem tab1_eq : tab1 (tabsOf m) = bases (m ((0 : Dev nD), Proc.devRef .tc main_arg1)) := by
  show StableHlo.after hostOps0 (fun b => m ((0 : Dev nD), b)) (Proc.devRef .tc main_call0_v8) = _
  after_reads_simp
  simp -implicitDefEqProofs only [StableHlo.TRef.toBuf, StableHlo.TRef.ofBuf, cast_cast, cast_eq]
  rfl

set_option maxHeartbeats 0 in set_option maxRecDepth 65536 in
theorem tab2_eq : tab2 (tabsOf m) = outs (m ((0 : Dev nD), Proc.devRef .tc main_arg1)) := by
  show StableHlo.after hostOps0 (fun b => m ((0 : Dev nD), b)) (Proc.devRef .tc main_call0_v15) = _
  after_reads_simp
  simp -implicitDefEqProofs only [StableHlo.TRef.toBuf, StableHlo.TRef.ofBuf, cast_cast, cast_eq]
  unfold outs bases eighth mins all blocks
  rfl

set_option maxHeartbeats 0 in set_option maxRecDepth 65536 in
theorem tab3_eq : tab3 (tabsOf m) = bases (m ((0 : Dev nD), Proc.devRef .tc main_arg3)) := by
  show StableHlo.after hostOps0 (fun b => m ((0 : Dev nD), b)) (Proc.devRef .tc main_call0_v22) = _
  after_reads_simp
  simp -implicitDefEqProofs only [StableHlo.TRef.toBuf, StableHlo.TRef.ofBuf, cast_cast, cast_eq]
  rfl

set_option maxHeartbeats 0 in set_option maxRecDepth 65536 in
theorem tab4_eq : tab4 (tabsOf m) = outs (m ((0 : Dev nD), Proc.devRef .tc main_arg3)) := by
  show StableHlo.after hostOps0 (fun b => m ((0 : Dev nD), b)) (Proc.devRef .tc main_call0_v29) = _
  after_reads_simp
  simp -implicitDefEqProofs only [StableHlo.TRef.toBuf, StableHlo.TRef.ofBuf, cast_cast, cast_eq]
  unfold outs bases eighth mins all blocks
  rfl

end Cert.Proof

end
-- ==== Proof.Assume.lean ====
/-
  From the precondition (no id is negative) to what the kernel assumes at each grid point: its window starts at a multiple of eight
  and lies inside the accumulators.
-/
module

public import proofs.«01_k».proof.Proof.Launch
public import proofs.«01_k».proof.Proof.Words
public import proofs.«01_k».proof.Proof.Tables
public import proofs.«01_k».proof.Proof.Gen.Pre_ids_nonnegative
public import Idealize.ShloMosaic.Lib.ReduceAll

@[expose] public section

noncomputable section

namespace Cert.Proof

open Cert.KernelIdeal Cert.KernelIdeal.Gen
open Idealize.ShloMosaic
open Idealize.ShloMosaic.TcCoe

variable {F : FTy → Type} [FloatOps F]

/-- A grid point's number as a block's number. -/
def blockOf (t : Fin grid0.N) : Fin 10 := ⟨t.val, t.isLt⟩

theorem placeAt_val : ∀ t : Fin grid0.N, (placeAt (grid0.coords t) 0).val = t.val := by decide

theorem placeAt_eq (t : Fin grid0.N) : placeAt (grid0.coords t) = ix1 (blockOf t) := by
  funext a
  fin_cases a
  exact Fin.ext (placeAt_val t)

theorem wordsOf_eq (T : Vec F S10 .i32) (t : Fin grid0.N) : wordsOf T t = T (ix1 (blockOf t)) :=
  congrArg T (placeAt_eq t)

/-- A window's first segment that is a multiple of eight and at most 448 is one the kernel may assume. -/
theorem chk_of (w : BitVec 32) (h8 : 8 ∣ w.toNat) (h : w.toNat ≤ 448) : k0_chk1 w := by
  refine ⟨h8, fun a => ?_, fun a => ?_⟩ <;> fin_cases a
  · show w.toNat + 64 ≤ 512; omega
  · show 0 + _ ≤ _; decide
  · show w.toNat + 64 ≤ 512; omega
  · show 0 + _ ≤ _; decide

/-- The precondition, read: no id of the two arrays is negative. -/
theorem pre_read (x1 x3 : IVec S50000 32)
    (h : andi (Host.reduce IntOp.andi (cmpi .sge x1 (broadcastInDim S50000 ![] (by decide) (constantI S_ 32 0#32))) (constantI S_ 1 1#1) (by decide : S50000.ReducesTo [0] S_) h_S_)
      (Host.reduce IntOp.andi (cmpi .sge x3 (broadcastInDim S50000 ![] (by decide) (constantI S_ 32 0#32))) (constantI S_ 1 1#1) (by decide : S50000.ReducesTo [0] S_) h_S_) = fun _ => 1#1) :
    (∀ i, 0 ≤ (x1 i).toInt) ∧ (∀ i, 0 ≤ (x3 i).toInt) := by
  have hs : Subsingleton S_.Idx := ⟨fun a b => funext fun k => k.elim0⟩
  have hj := congrFun h (fun k => k.elim0)
  have hand : ∀ a b : BitVec 1, IntOp.andi a b = 1#1 → a = 1#1 ∧ b = 1#1 := by decide
  obtain ⟨h1, h3⟩ := hand _ _ hj
  constructor <;> intro i
  · have := Host.reduce_andi_all _ _ _ h_S_ _ h1 i
    exact (WordCmp.ofBool_decide_eq_one_iff _).1 this
  · have := Host.reduce_andi_all _ _ _ h_S_ _ h3 i
    exact (WordCmp.ofBool_decide_eq_one_iff _).1 this

end Cert.Proof

end
-- ==== Proof.Frame.lean ====
/-
  What the run leaves: every argument as it was, no counter raised, and in the result what the last grid point stored.
-/
module

public import proofs.«01_k».proof.Proof.Assume
public import Idealize.ShloMosaic.Lib.Pipeline.ArrRel

@[expose] public section

noncomputable section

namespace Cert.Proof

open Cert.KernelIdeal Cert.KernelIdeal.Gen
open Idealize.ShloMosaic
open Idealize.ShloMosaic.TcCoe
open Idealize.ShloMosaic.Pipeline (Dat RDat Cfg Window)
open Idealize.SL.Sem

variable {F : FTy → Type} [FloatOps F]

variable (m : (ℓ : Loc nD τ sig) → Buf (Elt F) ℓ)

/-- The references the host prefix writes, in order. -/
def hostWrites : List (Ref sig .tc) :=
  [main_call0_v0, main_call0_v1, main_call0_v2, main_call0_c, main_call0_v3, main_call0_c_0, main_call0_call0_v0, main_call0_call0_v1, main_call0_call0_v2, main_call0_call0_v3, main_call0_call0_v4, main_call0_call0_v5, main_call0_call0_v6, main_call0_call0_v7, main_call0_call0_v8, main_call0_call0_c, main_call0_call0_v9, main_call0_call0_v10, main_call0_call0_v11, main_call0_call0_c_0, main_call0_call0_v12, main_call0_call0_v13, main_call0_v4, main_call0_c_1, main_call0_v5, main_call0_v6, main_call0_c_2, main_call0_v7, main_call0_v8, main_call0_v9, main_call0_v10, main_call0_v11, main_call0_c_3, main_call0_v12, main_call0_v13, main_call0_v14, main_call0_c_4, main_call0_v15, main_call0_v16, main_call0_c_5, main_call0_v17, main_call0_c_6, main_call0_call1_v0, main_call0_call1_v1, main_call0_call1_v2, main_call0_call1_v3, main_call0_call1_v4, main_call0_call1_v5, main_call0_call1_v6, main_call0_call1_v7, main_call0_call1_v8, main_call0_call1_c, main_call0_call1_v9, main_call0_call1_v10, main_call0_call1_v11, main_call0_call1_c_0, main_call0_call1_v12, main_call0_call1_v13, main_call0_v18, main_call0_c_7, main_call0_v19, main_call0_v20, main_call0_c_8, main_call0_v21, main_call0_v22, main_call0_v23, main_call0_v24, main_call0_v25, main_call0_c_9, main_call0_v26, main_call0_v27, main_call0_v28, main_call0_c_10, main_call0_v29, main_call0_v30, main_call0_v31, main_call0_v32, main_call0_v33, main_call0_v34, main_call0_v35, main_call0_v36, main_call0_v37, main_call0_v38]

set_option maxRecDepth 65536 in
set_option maxHeartbeats 0 in
theorem hostOps0_map : (hostOps0 : List (HloOp τ sig (Elt F))).map HloOp.writes = hostWrites.map fun w => {Proc.devRef (τ := τ) .tc w} := rfl

/-- The host prefix leaves alone what it does not write. -/
theorem entry_arg (c : Dev nD) (b : Ref sig .tc) (h : b ∉ hostWrites) : entryOf m c b = m (c, Proc.devRef .tc b) :=
  StableHlo.after_unwritten hostWrites hostOps0_map h _

/-- The arguments are as they were. -/
def Kept (r : PUnit × MemSt nD τ sig (Elt F)) : Prop := ∀ c : Dev nD,
        r.2.mem (c.tc.loc main_arg0) = m (c.tc.loc main_arg0)
        ∧ r.2.mem (c.tc.loc main_arg1) = m (c.tc.loc main_arg1)
        ∧ r.2.mem (c.tc.loc main_arg2) = m (c.tc.loc main_arg2)
        ∧ r.2.mem (c.tc.loc main_arg3) = m (c.tc.loc main_arg3)
        ∧ r.2.mem (c.tc.loc main_arg4) = m (c.tc.loc main_arg4)
        ∧ r.2.mem (c.tc.loc main_arg5) = m (c.tc.loc main_arg5)
        ∧ r.2.mem (c.tc.loc main_arg6) = m (c.tc.loc main_arg6)
        ∧ r.2.mem (c.tc.loc main_arg7) = m (c.tc.loc main_arg7)
        ∧ r.2.mem (c.tc.loc main_arg8) = m (c.tc.loc main_arg8)
        ∧ r.2.mem (c.tc.loc main_arg9) = m (c.tc.loc main_arg9)
        ∧ r.2.mem (c.tc.loc main_arg10) = m (c.tc.loc main_arg10)
        ∧ r.2.mem (c.tc.loc main_arg11) = m (c.tc.loc main_arg11)
        ∧ r.2.mem (c.tc.loc main_arg12) = m (c.tc.loc main_arg12)
        ∧ r.2.mem (c.tc.loc main_arg13) = m (c.tc.loc main_arg13)
        ∧ r.2.mem (c.tc.loc main_arg14) = m (c.tc.loc main_arg14)
        ∧ r.2.mem (c.tc.loc main_arg15) = m (c.tc.loc main_arg15)

/-- What is no window's array is at the end what the host prefix left. -/
theorem rest_of {r : PUnit × MemSt nD τ sig (Elt F)} (h : RDat.FramePost (cfg0 (tabsOf m)) (rdat (tabsOf m) (entryOf m)) (entryOf m) r) (c : Dev nD)
    (b : Ref sig .tc) (hb : b ∈ Pipeline.restRefs sig spec0) (hw : b ∉ hostWrites) : r.2.mem (c.tc.loc b) = m (c.tc.loc b) :=
  ((h c).2 b hb).trans (entry_arg m c b hw)

/-- The array of an input window is at the end what the host prefix left. -/
theorem input_of {r : PUnit × MemSt nD τ sig (Elt F)} (h : RDat.FramePost (cfg0 (tabsOf m)) (rdat (tabsOf m) (entryOf m)) (entryOf m) r) (c : Dev nD)
    (w : Fin 17) (hin : ((cfg0 (tabsOf m)).win w).isOut = false) (hw : Pipeline.arrRef spec0 w ∉ hostWrites) :
    r.2.mem (c.tc.loc (Pipeline.arrRef spec0 w)) = m (c.tc.loc (Pipeline.arrRef spec0 w)) :=
  (h.arr_in c w hin).trans (entry_arg m c _ hw)

set_option maxHeartbeats 0 in set_option maxRecDepth 65536 in
theorem kept_of {r : PUnit × MemSt nD τ sig (Elt F)} (h : RDat.FramePost (cfg0 (tabsOf m)) (rdat (tabsOf m) (entryOf m)) (entryOf m) r) : Kept m r := fun c =>
  ⟨
    input_of m h c 0 rfl (by decide),
    rest_of m h c main_arg1 (Pipeline.mem_restRefs_of main_arg1 (by decide) (by decide)) (by decide),
    input_of m h c 2 rfl (by decide),
    rest_of m h c main_arg3 (Pipeline.mem_restRefs_of main_arg3 (by decide) (by decide)) (by decide),
    rest_of m h c main_arg4 (Pipeline.mem_restRefs_of main_arg4 (by decide) (by decide)) (by decide),
    rest_of m h c main_arg5 (Pipeline.mem_restRefs_of main_arg5 (by decide) (by decide)) (by decide),
    rest_of m h c main_arg6 (Pipeline.mem_restRefs_of main_arg6 (by decide) (by decide)) (by decide),
    rest_of m h c main_arg7 (Pipeline.mem_restRefs_of main_arg7 (by decide) (by decide)) (by decide),
    rest_of m h c main_arg8 (Pipeline.mem_restRefs_of main_arg8 (by decide) (by decide)) (by decide),
    rest_of m h c main_arg9 (Pipeline.mem_restRefs_of main_arg9 (by decide) (by decide)) (by decide),
    input_of m h c 10 rfl (by decide),
    rest_of m h c main_arg11 (Pipeline.mem_restRefs_of main_arg11 (by decide) (by decide)) (by decide),
    input_of m h c 12 rfl (by decide),
    rest_of m h c main_arg13 (Pipeline.mem_restRefs_of main_arg13 (by decide) (by decide)) (by decide),
    input_of m h c 14 rfl (by decide),
    rest_of m h c main_arg15 (Pipeline.mem_restRefs_of main_arg15 (by decide) (by decide)) (by decide)⟩

/-- No id of the two arrays of ids is negative. -/
def Nonneg : Prop := (∀ i, 0 ≤ ((m ((0 : Dev nD), Proc.devRef .tc main_arg1) : IVec S50000 32) i).toInt)
  ∧ (∀ i, 0 ≤ ((m ((0 : Dev nD), Proc.devRef .tc main_arg3) : IVec S50000 32) i).toInt)

variable {m}

theorem chk1_of (h : Nonneg m) (t : Fin grid0.N) : k0_chk1 (wordsOf (tab1 (tabsOf m)) t) := by
  rw [tab1_eq, wordsOf_eq]
  exact chk_of _ (bases_dvd h.1 _) (bases_le h.1 _)

theorem chk2_of (h : Nonneg m) (t : Fin grid0.N) : k0_chk1 (wordsOf (tab3 (tabsOf m)) t) := by
  rw [tab3_eq, wordsOf_eq]
  exact chk_of _ (bases_dvd h.2 _) (bases_le h.2 _)

/-- The run, of ids that are not negative: the arguments are as they were, the counters at zero. -/
theorem run_kept (h : Nonneg m) (g : Dev nD → PrngReg) :
    θ_run (defs (F := F)) (onTc (τ := τ) (main (F := F))) ⟨m, fun _ => 0, g⟩ (fun r => Kept m r ∧ r.2.sem = fun _ => 0) :=
  (θ_run defs _ _).mono (fun _ hr => ⟨kept_of m hr.1, hr.2⟩) (run_main m g (chk1_of h) (chk2_of h))

end Cert.Proof

end
-- ==== Proof.FrameKernel.lean ====
/-
  The frames of the kernel, of its idealization and of the reference.
-/
module

public import proofs.«01_k».proof.Defs
public import proofs.«01_k».proof.Proof.Frame
public import proofs.«01_k».proof.Proof.Gen.Kernel
public import proofs.«01_k».proof.Proof.Gen.ReferenceIdeal
public import proofs.«01_k».proof.Proof.Gen.ReferenceIdeal.Run
public import Idealize.ShloMosaic.Lib.Quiescent

@[expose] public section

noncomputable section

namespace Cert.Proof

open Idealize.ShloMosaic Idealize.SL.Sem

theorem nonneg_ideal (m : (ℓ : Loc Cert.KernelIdeal.nD Cert.KernelIdeal.τ Cert.KernelIdeal.sig) → Buf (Elt Ideal) ℓ) (h : Cert.Pre_KernelIdeal m) : Nonneg m :=
  pre_read _ _ (h 0)

theorem frame_ideal : Cert.quiescent_KernelIdeal := fun m g h => run_kept (nonneg_ideal m h) g

theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

end Cert.Proof

end
-- ==== Proof.Transfer.lean ====
/-
  The kernel's own frame: the program is the idealization's program read at the machine's floats, so the run proved of the latter for any
  floats is the former's.
-/
module

public import proofs.«01_k».proof.Defs
public import proofs.«01_k».proof.Proof.Frame
public import proofs.«01_k».proof.Proof.Gen.Kernel

@[expose] public section

noncomputable section

namespace Cert.Proof

open Idealize.ShloMosaic Idealize.SL.Sem

set_option maxHeartbeats 0
set_option maxRecDepth 65536

theorem body_eq : @Cert.Kernel.cc0__pool_body Bits _ _ = @Cert.KernelIdeal.cc0__pool_body Bits _ _ := rfl

theorem pcfgs_eq : @Cert.Kernel.pcfgs Bits _ _ = @Cert.KernelIdeal.pcfgs Bits _ _ := rfl

theorem defs₀_eq : @Cert.Kernel.defs₀ Bits _ _ = @Cert.KernelIdeal.defs₀ Bits _ _ := by
  unfold Cert.Kernel.defs₀ Cert.KernelIdeal.defs₀
  rw [body_eq]
  refine congrArg Defs.onTc ?_
  funext l p
  match l, p with
  | 0, (t, s) => rfl
  | ⟨_ + 1, h⟩, _ => exact absurd h (by omega)

theorem defs_eq : @Cert.Kernel.defs Bits _ _ = @Cert.KernelIdeal.defs Bits _ _ := congrArg (Pipeline.defs (@Cert.KernelIdeal.pcfgs Bits _ _)) defs₀_eq

theorem main_eq : @Cert.Kernel.main Bits _ _ = @Cert.KernelIdeal.main Bits _ _ := rfl

theorem nonneg_bits (m : (ℓ : Loc Cert.Kernel.nD Cert.Kernel.τ Cert.Kernel.sig) → Buf (Elt Bits) ℓ) (h : Cert.Pre_Kernel m) : Nonneg (F := Bits) m :=
  pre_read _ _ (h 0)

theorem frame_kernel : Cert.quiescent_Kernel := fun m g h => by
  rw [defs_eq, main_eq]
  exact run_kept (F := Bits) (nonneg_bits m h) g

end Cert.Proof

end
-- ==== Proof.Entry.lean ====
/-
  What the host prefix leaves in the buffers the windows read.
-/
module

public import proofs.«01_k».proof.Proof.Frame

@[expose] public section

noncomputable section

namespace Cert.Proof

open Cert.KernelIdeal Cert.KernelIdeal.Gen
open Idealize.ShloMosaic
open Idealize.ShloMosaic.TcCoe
open Idealize.SL Idealize.SL.Sem

variable {F : FTy → Type} [FloatOps F]
variable (m : (ℓ : Loc nD τ sig) → Buf (Elt F) ℓ)

set_option maxHeartbeats 0 in set_option maxRecDepth 65536 in
theorem v0_eq : (entryOf m 0 main_call0_v0 : IVec S10x1x5000 32) = shapeCast S10x1x5000 (m ((0 : Dev nD), Proc.devRef .tc main_arg1) : IVec S50000 32) shapeCasts_S50000_S10x1x5000 := by
  show StableHlo.after hostOps0 (fun b => m ((0 : Dev nD), b)) (Proc.devRef .tc main_call0_v0) = _
  after_reads_simp
  try simp -implicitDefEqProofs only [StableHlo.TRef.toBuf, StableHlo.TRef.ofBuf, cast_cast, cast_eq]
  try rfl

set_option maxHeartbeats 0 in set_option maxRecDepth 65536 in
theorem v1_eq : (entryOf m 0 main_call0_v1 : IVec S10x1x5000 32) = shapeCast S10x1x5000 (m ((0 : Dev nD), Proc.devRef .tc main_arg3) : IVec S50000 32) shapeCasts_S50000_S10x1x5000 := by
  show StableHlo.after hostOps0 (fun b => m ((0 : Dev nD), b)) (Proc.devRef .tc main_call0_v1) = _
  after_reads_simp
  try simp -implicitDefEqProofs only [StableHlo.TRef.toBuf, StableHlo.TRef.ofBuf, cast_cast, cast_eq]
  try rfl

set_option maxHeartbeats 0 in set_option maxRecDepth 65536 in
theorem v30_eq : (entryOf m 0 main_call0_v30 : FVec F S256x256 .bf16) = truncf .bf16 (m ((0 : Dev nD), Proc.devRef .tc main_arg4) : FVec F S256x256 .f32) bitsLt_bf16_f32 := by
  show StableHlo.after hostOps0 (fun b => m ((0 : Dev nD), b)) (Proc.devRef .tc main_call0_v30) = _
  after_reads_simp
  try simp -implicitDefEqProofs only [StableHlo.TRef.toBuf, StableHlo.TRef.ofBuf, cast_cast, cast_eq]
  try rfl

set_option maxHeartbeats 0 in set_option maxRecDepth 65536 in
theorem v31_eq : (entryOf m 0 main_call0_v31 : FVec F S1x256 .f32) = shapeCast S1x256 (m ((0 : Dev nD), Proc.devRef .tc main_arg5) : FVec F S256 .f32) shapeCasts_S256_S1x256 := by
  show StableHlo.after hostOps0 (fun b => m ((0 : Dev nD), b)) (Proc.devRef .tc main_call0_v31) = _
  after_reads_simp
  try simp -implicitDefEqProofs only [StableHlo.TRef.toBuf, StableHlo.TRef.ofBuf, cast_cast, cast_eq]
  try rfl

set_option maxHeartbeats 0 in set_option maxRecDepth 65536 in
theorem v32_eq : (entryOf m 0 main_call0_v32 : FVec F S256x256 .bf16) = truncf .bf16 (m ((0 : Dev nD), Proc.devRef .tc main_arg6) : FVec F S256x256 .f32) bitsLt_bf16_f32 := by
  show StableHlo.after hostOps0 (fun b => m ((0 : Dev nD), b)) (Proc.devRef .tc main_call0_v32) = _
  after_reads_simp
  try simp -implicitDefEqProofs only [StableHlo.TRef.toBuf, StableHlo.TRef.ofBuf, cast_cast, cast_eq]
  try rfl

set_option maxHeartbeats 0 in set_option maxRecDepth 65536 in
theorem v33_eq : (entryOf m 0 main_call0_v33 : FVec F S1x256 .f32) = shapeCast S1x256 (m ((0 : Dev nD), Proc.devRef .tc main_arg7) : FVec F S256 .f32) shapeCasts_S256_S1x256 := by
  show StableHlo.after hostOps0 (fun b => m ((0 : Dev nD), b)) (Proc.devRef .tc main_call0_v33) = _
  after_reads_simp
  try simp -implicitDefEqProofs only [StableHlo.TRef.toBuf, StableHlo.TRef.ofBuf, cast_cast, cast_eq]
  try rfl

set_option maxHeartbeats 0 in set_option maxRecDepth 65536 in
theorem v34_eq : (entryOf m 0 main_call0_v34 : FVec F S1x256 .f32) = shapeCast S1x256 (m ((0 : Dev nD), Proc.devRef .tc main_arg8) : FVec F S256x1 .f32) shapeCasts_S256x1_S1x256 := by
  show StableHlo.after hostOps0 (fun b => m ((0 : Dev nD), b)) (Proc.devRef .tc main_call0_v34) = _
  after_reads_simp
  try simp -implicitDefEqProofs only [StableHlo.TRef.toBuf, StableHlo.TRef.ofBuf, cast_cast, cast_eq]
  try rfl

set_option maxHeartbeats 0 in set_option maxRecDepth 65536 in
theorem v35_eq : (entryOf m 0 main_call0_v35 : FVec F S1x1 .f32) = shapeCast S1x1 (m ((0 : Dev nD), Proc.devRef .tc main_arg9) : FVec F S1 .f32) shapeCasts_S1_S1x1 := by
  show StableHlo.after hostOps0 (fun b => m ((0 : Dev nD), b)) (Proc.devRef .tc main_call0_v35) = _
  after_reads_simp
  try simp -implicitDefEqProofs only [StableHlo.TRef.toBuf, StableHlo.TRef.ofBuf, cast_cast, cast_eq]
  try rfl

set_option maxHeartbeats 0 in set_option maxRecDepth 65536 in
theorem v36_eq : (entryOf m 0 main_call0_v36 : FVec F S1x256 .f32) = shapeCast S1x256 (m ((0 : Dev nD), Proc.devRef .tc main_arg11) : FVec F S256 .f32) shapeCasts_S256_S1x256 := by
  show StableHlo.after hostOps0 (fun b => m ((0 : Dev nD), b)) (Proc.devRef .tc main_call0_v36) = _
  after_reads_simp
  try simp -implicitDefEqProofs only [StableHlo.TRef.toBuf, StableHlo.TRef.ofBuf, cast_cast, cast_eq]
  try rfl

set_option maxHeartbeats 0 in set_option maxRecDepth 65536 in
theorem v37_eq : (entryOf m 0 main_call0_v37 : FVec F S1x256 .f32) = shapeCast S1x256 (m ((0 : Dev nD), Proc.devRef .tc main_arg13) : FVec F S256 .f32) shapeCasts_S256_S1x256 := by
  show StableHlo.after hostOps0 (fun b => m ((0 : Dev nD), b)) (Proc.devRef .tc main_call0_v37) = _
  after_reads_simp
  try simp -implicitDefEqProofs only [StableHlo.TRef.toBuf, StableHlo.TRef.ofBuf, cast_cast, cast_eq]
  try rfl

set_option maxHeartbeats 0 in set_option maxRecDepth 65536 in
theorem v38_eq : (entryOf m 0 main_call0_v38 : FVec F S1x128 .f32) = shapeCast S1x128 (m ((0 : Dev nD), Proc.devRef .tc main_arg15) : FVec F S128 .f32) shapeCasts_S128_S1x128 := by
  show StableHlo.after hostOps0 (fun b => m ((0 : Dev nD), b)) (Proc.devRef .tc main_call0_v38) = _
  after_reads_simp
  try simp -implicitDefEqProofs only [StableHlo.TRef.toBuf, StableHlo.TRef.ofBuf, cast_cast, cast_eq]
  try rfl

end Cert.Proof

end
-- ==== Proof.KerReads.lean ====
/-
  What the call's arrays hold over the reals, in terms of the arguments.
-/
module

public import proofs.«01_k».proof.Proof.Entry
public import proofs.«01_k».proof.Proof.Words
public import Idealize.ShloMosaic.Lib.Pointwise

@[expose] public section

noncomputable section

namespace Cert.Proof

open Cert.KernelIdeal Cert.KernelIdeal.Gen
open Idealize.ShloMosaic Idealize.ShloMosaic.TcCoe Idealize.SL.Sem

/-- An argument's contents on the only device. -/
abbrev argOf (m : (ℓ : Loc nD τ sig) → Buf (Elt Ideal) ℓ) (b : Ref sig .tc) := m ((0 : Dev nD), Proc.devRef .tc b)

variable (m : (ℓ : Loc nD τ sig) → Buf (Elt Ideal) ℓ)

theorem read_v0 (t : Fin 10) (k : Fin 5000) : (entryOf m 0 main_call0_v0 : IVec S10x1x5000 32) (ix3 t 0 k) = idAt (argOf m main_arg1) t k := by
  rw [v0_eq]; unfold idAt argOf; generalize m ((0 : Dev nD), Proc.devRef .tc main_arg1) = x; pointwise

theorem read_v1 (t : Fin 10) (k : Fin 5000) : (entryOf m 0 main_call0_v1 : IVec S10x1x5000 32) (ix3 t 0 k) = idAt (argOf m main_arg3) t k := by
  rw [v1_eq]; unfold idAt argOf; generalize m ((0 : Dev nD), Proc.devRef .tc main_arg3) = x; pointwise

theorem read_v30 (i j : Fin 256) : (entryOf m 0 main_call0_v30 : FVec Ideal S256x256 .bf16) (ix2 i j) = (argOf m main_arg4 : FVec Ideal S256x256 .f32) (ix2 i j) := by
  rw [v30_eq]; rfl

theorem read_v32 (i j : Fin 256) : (entryOf m 0 main_call0_v32 : FVec Ideal S256x256 .bf16) (ix2 i j) = (argOf m main_arg6 : FVec Ideal S256x256 .f32) (ix2 i j) := by
  rw [v32_eq]; rfl

theorem read_v31 (j : Fin 256) : (entryOf m 0 main_call0_v31 : FVec Ideal S1x256 .f32) (ix2 0 j) = (argOf m main_arg5 : FVec Ideal S256 .f32) (ix1 j) := by
  rw [v31_eq]; unfold argOf; generalize m ((0 : Dev nD), Proc.devRef .tc main_arg5) = x; pointwise

theorem read_v33 (j : Fin 256) : (entryOf m 0 main_call0_v33 : FVec Ideal S1x256 .f32) (ix2 0 j) = (argOf m main_arg7 : FVec Ideal S256 .f32) (ix1 j) := by
  rw [v33_eq]; unfold argOf; generalize m ((0 : Dev nD), Proc.devRef .tc main_arg7) = x; pointwise

theorem read_v34 (j : Fin 256) : (entryOf m 0 main_call0_v34 : FVec Ideal S1x256 .f32) (ix2 0 j) = (argOf m main_arg8 : FVec Ideal S256x1 .f32) (ix2 j 0) := by
  rw [v34_eq]; unfold argOf; generalize m ((0 : Dev nD), Proc.devRef .tc main_arg8) = x; pointwise

theorem read_v35 : (entryOf m 0 main_call0_v35 : FVec Ideal S1x1 .f32) (ix2 0 0) = (argOf m main_arg9 : FVec Ideal S1 .f32) (ix1 0) := by
  rw [v35_eq]; unfold argOf; generalize m ((0 : Dev nD), Proc.devRef .tc main_arg9) = x; pointwise

theorem read_v36 (j : Fin 256) : (entryOf m 0 main_call0_v36 : FVec Ideal S1x256 .f32) (ix2 0 j) = (argOf m main_arg11 : FVec Ideal S256 .f32) (ix1 j) := by
  rw [v36_eq]; unfold argOf; generalize m ((0 : Dev nD), Proc.devRef .tc main_arg11) = x; pointwise

theorem read_v37 (j : Fin 256) : (entryOf m 0 main_call0_v37 : FVec Ideal S1x256 .f32) (ix2 0 j) = (argOf m main_arg13 : FVec Ideal S256 .f32) (ix1 j) := by
  rw [v37_eq]; unfold argOf; generalize m ((0 : Dev nD), Proc.devRef .tc main_arg13) = x; pointwise

theorem read_v38 (j : Fin 128) : (entryOf m 0 main_call0_v38 : FVec Ideal S1x128 .f32) (ix2 0 j) = (argOf m main_arg15 : FVec Ideal S128 .f32) (ix1 j) := by
  rw [v38_eq]; unfold argOf; generalize m ((0 : Dev nD), Proc.devRef .tc main_arg15) = x; pointwise

end Cert.Proof

end
-- ==== Proof.Spec.lean ====
/-
  The mathematics, on plain functions: the attention weight of a node, the sum over the nodes of a segment, the mean, the last layers.
-/
module

public import Idealize.ShloMosaic.PureOps.Ideal

@[expose] public section

noncomputable section

namespace Cert.Proof

open Idealize.ShloMosaic

/-- A layer: the product with the matrix, the bias added. -/
def layer {K J : ℕ} (x : Fin K → EReal) (w : Fin K → Fin J → EReal) (b : Fin J → EReal) (j : Fin J) : EReal := ∑ k, x k * w k j + b j

/-- A layer with the negative part cut. -/
def hidden {K J : ℕ} (x : Fin K → EReal) (w : Fin K → Fin J → EReal) (b : Fin J → EReal) (j : Fin J) : EReal := max (layer x w b j) 0

/-- A node's attention weight. -/
def attention (x : Fin 256 → EReal) (w0 : Fin 256 → Fin 256 → EReal) (b0 : Fin 256 → EReal) (w1 : Fin 256 → Fin 256 → EReal) (b1 : Fin 256 → EReal)
    (w2 : Fin 256 → EReal) (b2 : EReal) : EReal := ∑ j, hidden (hidden x w0 b0) w1 b1 j * w2 j + b2

/-- The sum of `w` over the rows whose id is `b`. -/
def segment {N : ℕ} (ids : Fin N → BitVec 32) (w : Fin N → EReal) (b : ℕ) : EReal := ∑ n, if (ids n).toNat = b then w n else 0

/-- The arguments of the problem that both node sets share, and the last layers'. -/
structure Weights where
  wa0 : Fin 256 → Fin 256 → EReal
  ba0 : Fin 256 → EReal
  wa1 : Fin 256 → Fin 256 → EReal
  ba1 : Fin 256 → EReal
  wa2 : Fin 256 → EReal
  ba2 : EReal
  wf0 : Fin 512 → Fin 256 → EReal
  bf0 : Fin 256 → EReal
  wf1 : Fin 256 → Fin 256 → EReal
  bf1 : Fin 256 → EReal
  wf2 : Fin 256 → Fin 128 → EReal
  bf2 : Fin 128 → EReal

/-- A node's row times its attention weight. -/
def weighted (W : Weights) (x : Fin 256 → EReal) (d : Fin 256) : EReal := x d * attention x W.wa0 W.ba0 W.wa1 W.ba1 W.wa2 W.ba2

/-- The mean of the weighted rows of a segment. -/
def pooled (W : Weights) (x : Fin 50000 → Fin 256 → EReal) (ids : Fin 50000 → BitVec 32) (b : ℕ) (d : Fin 256) : EReal :=
  Ideal.div (segment ids (fun n => weighted W (x n) d) b) (max (segment ids (fun _ => 1) b) 1)

/-- The first of the last layers: the pooled rows side by side, times the matrix. -/
def joined (W : Weights) (u1 u2 : Fin 256 → EReal) (j : Fin 256) : EReal :=
  max (∑ k : Fin 256, u1 k * W.wf0 ⟨k.val, by omega⟩ j + ∑ k : Fin 256, u2 k * W.wf0 ⟨256 + k.val, by omega⟩ j + W.bf0 j) 0

/-- The result. -/
def answer (W : Weights) (u1 u2 : Fin 256 → EReal) (d : Fin 128) : EReal := layer (hidden (joined W u1 u2) W.wf1 W.bf1) W.wf2 W.bf2 d

end Cert.Proof

end
-- ==== Proof.Payloads.lean ====
/-
  What the kernel's vector operations compute over the reals, at an element: a matrix product with a 0/1 matrix is a sum over the rows
  the matrix marks.
-/
module

public import proofs.«01_k».proof.Proof.Spec
public import proofs.«01_k».proof.Proof.Body
public import Idealize.ShloMosaic.Lib.Pointwise

@[expose] public section

noncomputable section

namespace Cert.Proof

open Cert.KernelIdeal Cert.KernelIdeal.Gen
open Idealize.ShloMosaic

/-- A bit as a number. -/
theorem bit_number (b : BitVec 1) : (FloatOps.sitofp .f32 (BitVec.setWidth 32 b) : Ideal .f32) = if b = 1#1 then 1 else 0 := by
  show (((BitVec.setWidth 32 b).toInt : ℝ) : EReal) = _
  have hb : b = 0#1 ∨ b = 1#1 := by revert b; decide
  rcases hb with rfl | rfl <;> simp

/-- The weighted rows. -/
theorem pay17_at (v3 v5 : Vec Ideal S256x256 .bf16) (v7 v9 v11 : Vec Ideal S1x256 .f32) (v13 : Vec Ideal S1x1 .f32) (v15 : Vec Ideal S5000x256 .f32)
    (k : Fin 5000) (d : Fin 256) :
    k0_pay17 v3 v5 v7 v9 v11 v13 v15 (ix2 k d) = v15 (ix2 k d) * attention (fun j => v15 (ix2 k j)) (fun i j => v3 (ix2 i j)) (fun j => v9 (ix2 0 j))
      (fun i j => v5 (ix2 i j)) (fun j => v11 (ix2 0 j)) (fun j => v7 (ix2 0 j)) (v13 (ix2 0 0)) := by
  pointwise [k0_pay17, k0_pay11, k0_pay12, k0_pay13, k0_pay14, k0_pay15, k0_pay16]
  simp only [attention, hidden, layer]

/-- The window's sums: each row of the window and the block's rows whose id is that many past the window's first segment. -/
theorem pay21_at (w : FVec Ideal S5000x256 .bf16) (base : BitVec 32) (ids : Vec Ideal S1x1x5000 .i32) (s : Vec Ideal S64x256 .f32) (r : Fin 64) (d : Fin 256) :
    k0_pay21 (F := Ideal) w base ids s (ix2 r d)
      = s (ix2 r d) + ∑ k, if IntOp.cmpi .eq (BitVec.ofNat 32 r.val) (IntOp.subi (ids (ix3 0 0 k)) base) = 1#1 then w (ix2 k d) else 0 := by
  pointwise [k0_pay21, k0_pay20, k0_pay19, k0_pay18]
  simp only [bit_number, ite_mul, one_mul, zero_mul]

/-- The window's counts. -/
theorem pay22_at (base : BitVec 32) (ids : Vec Ideal S1x1x5000 .i32) (s : Vec Ideal S64x128 .f32) (r : Fin 64) (d : Fin 128) :
    k0_pay22 (F := Ideal) base ids s (ix2 r d)
      = s (ix2 r d) + ∑ k, if IntOp.cmpi .eq (BitVec.ofNat 32 r.val) (IntOp.subi (ids (ix3 0 0 k)) base) = 1#1 then (1 : EReal) else 0 := by
  pointwise [k0_pay22, k0_pay20, k0_pay19, k0_pay18]
  simp only [bit_number]

/-- The sums of the block's rows past the window. -/
theorem pay24_at (w : FVec Ideal S5000x256 .bf16) (base : BitVec 32) (ids : Vec Ideal S1x1x5000 .i32) (s : Vec Ideal S512x256 .f32) (r : Fin 512) (d : Fin 256) :
    k0_pay24 (F := Ideal) w base ids s (ix2 r d)
      = s (ix2 r d) + ∑ k, if IntOp.andi (IntOp.cmpi .eq (BitVec.ofNat 32 r.val) (ids (ix3 0 0 k)))
          (IntOp.cmpi .sge (IntOp.subi (ids (ix3 0 0 k)) base) 64#32) = 1#1 then w (ix2 k d) else 0 := by
  pointwise [k0_pay24, k0_pay23, k0_pay19, k0_pay18]
  simp only [bit_number, ite_mul, one_mul, zero_mul]

/-- Their counts. -/
theorem pay25_at (base : BitVec 32) (ids : Vec Ideal S1x1x5000 .i32) (s : Vec Ideal S512x128 .f32) (r : Fin 512) (d : Fin 128) :
    k0_pay25 (F := Ideal) base ids s (ix2 r d)
      = s (ix2 r d) + ∑ k, if IntOp.andi (IntOp.cmpi .eq (BitVec.ofNat 32 r.val) (ids (ix3 0 0 k)))
          (IntOp.cmpi .sge (IntOp.subi (ids (ix3 0 0 k)) base) 64#32) = 1#1 then (1 : EReal) else 0 := by
  pointwise [k0_pay25, k0_pay23, k0_pay19, k0_pay18]
  simp only [bit_number]

/-- The accumulators begin at zero. -/
theorem pay7_at (r : Fin 512) (d : Fin 256) : k0_pay7 (F := Ideal) (ix2 r d) = 0 := by pointwise [k0_pay7]
theorem pay8_at (r : Fin 512) (d : Fin 128) : k0_pay8 (F := Ideal) (ix2 r d) = 0 := by pointwise [k0_pay8]

/-- A row of the last layers: from the sums and counts to the result. -/
theorem last_at (v140 v141 : Vec Ideal S512x1 .f32) (v142 v147 : Vec Ideal S512x256 .f32) (v152 v154 : Vec Ideal S256x256 .f32) (v157 : Vec Ideal S1x256 .f32)
    (v163 : Vec Ideal S256x256 .f32) (v165 : Vec Ideal S1x256 .f32) (v2 : Vec Ideal S256x128 .f32) (v3 : Vec Ideal S1x128 .f32) (r : Fin 512) (d : Fin 128) :
    k0_pay5 (F := Ideal) (k0_pay6 (F := Ideal) v140 v141 v142 v147 v152 v154 v157 v163 v165) v2 (constant S512x128 .f32 0x00000000#32) v3 (ix2 r d)
      = layer (hidden (fun j => max (∑ k, Ideal.div (v142 (ix2 r k)) (max (v140 (ix2 r 0)) 1) * v152 (ix2 k j)
            + ∑ k, Ideal.div (v147 (ix2 r k)) (max (v141 (ix2 r 0)) 1) * v154 (ix2 k j) + v157 (ix2 0 j)) 0)
          (fun i j => v163 (ix2 i j)) (fun j => v165 (ix2 0 j))) (fun i j => v2 (ix2 i j)) (fun j => v3 (ix2 0 j)) d := by
  pointwise [k0_pay5, k0_pay6]
  simp only [hidden, layer]

end Cert.Proof

end
-- ==== Proof.Window.lean ====
/-
  A window of 64 rows in an array of rows, and the sum over a block's rows split at the window.
-/
module

public import proofs.«01_k».proof.Proof.Words
public import Idealize.ShloMosaic.Lib.VecWindow
public import Idealize.ShloMosaic.PureOps.Ideal

@[expose] public section

noncomputable section

namespace Cert.Proof

open Cert.KernelIdeal Cert.KernelIdeal.Gen
open Idealize.ShloMosaic

section Rows

variable {α : Type} {R C n c : ℕ}

/-- A window's element is the array's, as far down and along as the window's corner. -/
theorem window_at (s : (⟨2, ![R, C]⟩ : Shape).Idx → α) (a b : ℕ) (inb : ∀ x, (![a, b] : Fin 2 → ℕ) x + (![n, c] : Fin 2 → ℕ) x ≤ (⟨2, ![R, C]⟩ : Shape).size x)
    (i : Fin n) (d : Fin c) (r : Fin R) (e : Fin C) (hr : r.val = a + i.val) (he : e.val = b + d.val) :
    VecWindow.window (s := ⟨2, ![R, C]⟩) s ![a, b] ![n, c] inb (ix2 i d) = s (ix2 r e) := by
  refine congrArg s (funext fun x => Fin.ext ?_)
  match x with
  | 0 => show a + 1 * i.val = r.val; omega
  | 1 => show b + 1 * d.val = e.val; omega

/-- Rows put at row `a`: the payload inside the window, the array outside. -/
theorem put_at (s : (⟨2, ![R, C]⟩ : Shape).Idx → α) (a : ℕ) (v : (⟨2, ![n, C]⟩ : Shape).Idx → α) (r : Fin R) (d : Fin C) :
    VecWindow.put (s := ⟨2, ![R, C]⟩) s ![a, 0] ![n, C] v (ix2 r d)
      = if h : a ≤ r.val ∧ r.val < a + n then v (ix2 ⟨r.val - a, by omega⟩ d) else s (ix2 r d) := by
  unfold VecWindow.put
  by_cases h : a ≤ r.val ∧ r.val < a + n
  · rw [dif_pos h, dif_pos]
    · refine congrArg v (funext fun x => Fin.ext ?_)
      match x with
      | 0 => rfl
      | 1 => show d.val - 0 = d.val; omega
    · intro x
      match x with
      | 0 => exact h
      | 1 => exact ⟨Nat.zero_le _, by show d.val < 0 + C; omega⟩
  · rw [dif_neg h, dif_neg]
    intro hx
    exact h (hx 0)

end Rows

section Split

variable {ids : IVec S50000 32} (h : ∀ i, 0 ≤ (ids i).toInt) (t : Fin 10) (w : Fin 5000 → EReal) (x : EReal) (r : Fin 512)

include h

/-- Row `i` of the window collects the ids that are its segment. -/
theorem eq_sub (k : Fin 5000) (hr : (bases ids (ix1 t)).toNat ≤ r.val) :
    IntOp.cmpi .eq (BitVec.ofNat 32 (r.val - (bases ids (ix1 t)).toNat)) (IntOp.subi (idAt ids t k) (bases ids (ix1 t))) = 1#1 ↔ (idAt ids t k).toNat = r.val := by
  have h1 := bases_le_id h t k
  have h2 := idAt_lt h t k
  have e : (IntOp.subi (idAt ids t k) (bases ids (ix1 t))).toNat = (idAt ids t k).toNat - (bases ids (ix1 t)).toNat := by
    show (idAt ids t k - bases ids (ix1 t)).toNat = _
    rw [BitVec.toNat_sub]; omega
  rw [WordCmp.cmpi_eq_eq_toNat, WordCmp.ofBool_decide_eq_one_iff, e, BitVec.toNat_ofNat]
  omega

/-- The window collects the rows of segment `r` that lie in it: all there are, or none. -/
theorem near_sum :
    (if _h : (bases ids (ix1 t)).toNat ≤ r.val ∧ r.val < (bases ids (ix1 t)).toNat + 64 then
        x + ∑ k, if IntOp.cmpi .eq (BitVec.ofNat 32 (r.val - (bases ids (ix1 t)).toNat)) (IntOp.subi (idAt ids t k) (bases ids (ix1 t))) = 1#1 then w k else 0
      else x)
      = x + ∑ k, if (idAt ids t k).toNat = r.val ∧ (idAt ids t k).toNat < (bases ids (ix1 t)).toNat + 64 then w k else 0 := by
  split
  · rename_i hr
    refine congrArg (x + ·) (Finset.sum_congr rfl fun k _ => if_congr ?_ rfl rfl)
    rw [eq_sub h t r k hr.1]
    omega
  · rename_i hr
    rw [Finset.sum_eq_zero, add_zero]
    intro k _
    have := bases_le_id h t k
    exact if_neg (by omega)

/-- The rest of the segment's rows are those past the window. -/
theorem far_sum :
    x + (∑ k, if (idAt ids t k).toNat = r.val ∧ (idAt ids t k).toNat < (bases ids (ix1 t)).toNat + 64 then w k else 0)
      + (∑ k, if IntOp.andi (IntOp.cmpi .eq (BitVec.ofNat 32 r.val) (idAt ids t k))
          (IntOp.cmpi .sge (IntOp.subi (idAt ids t k) (bases ids (ix1 t))) 64#32) = 1#1 then w k else 0)
      = x + ∑ k, if (idAt ids t k).toNat = r.val then w k else 0 := by
  rw [add_assoc, ← Finset.sum_add_distrib]
  refine congrArg (x + ·) (Finset.sum_congr rfl fun k _ => ?_)
  have ha : ∀ a b : BitVec 1, IntOp.andi a b = 1#1 ↔ a = 1#1 ∧ b = 1#1 := by decide
  have hk : IntOp.andi (IntOp.cmpi .eq (BitVec.ofNat 32 r.val) (idAt ids t k))
      (IntOp.cmpi .sge (IntOp.subi (idAt ids t k) (bases ids (ix1 t))) 64#32) = 1#1
      ↔ (idAt ids t k).toNat = r.val ∧ ¬ (idAt ids t k).toNat < (bases ids (ix1 t)).toNat + 64 := by
    rw [ha, sge_sub h t k, WordCmp.cmpi_eq_eq_toNat, WordCmp.ofBool_decide_eq_one_iff, BitVec.toNat_ofNat]
    omega
  rw [if_congr hk rfl rfl]
  by_cases h1 : (idAt ids t k).toNat = r.val <;> by_cases h2 : (idAt ids t k).toNat < (bases ids (ix1 t)).toNat + 64
  · rw [if_pos ⟨h1, h2⟩, if_neg (fun q => q.2 h2), if_pos h1, add_zero]
  · rw [if_neg (fun q => h2 q.2), if_pos ⟨h1, h2⟩, if_pos h1, zero_add]
  · rw [if_neg (fun q => h1 q.1), if_neg (fun q => h1 q.1), if_neg h1, add_zero]
  · rw [if_neg (fun q => h1 q.1), if_neg (fun q => h1 q.1), if_neg h1, add_zero]

omit h in
/-- When nothing lies past the window, the window collects all. -/
theorem near_all (hn : ¬ ∃ k, (bases ids (ix1 t)).toNat + 64 ≤ (idAt ids t k).toNat) :
    x + (∑ k, if (idAt ids t k).toNat = r.val ∧ (idAt ids t k).toNat < (bases ids (ix1 t)).toNat + 64 then w k else 0)
      = x + ∑ k, if (idAt ids t k).toNat = r.val then w k else 0 := by
  refine congrArg (x + ·) (Finset.sum_congr rfl fun k _ => if_congr ?_ rfl rfl)
  have : ¬ (bases ids (ix1 t)).toNat + 64 ≤ (idAt ids t k).toNat := fun hk => hn ⟨k, hk⟩
  omega

end Split

end Cert.Proof

end
-- ==== Proof.Step.lean ====
/-
  A block's step over the reals: every segment gains the block's rows whose id it is; so after the ten blocks it holds its sum and its count.
-/
module

public import proofs.«01_k».proof.Proof.Payloads
public import proofs.«01_k».proof.Proof.Window
public import proofs.«01_k».proof.Proof.Assume

@[expose] public section

noncomputable section

namespace Cert.Proof

open Cert.KernelIdeal Cert.KernelIdeal.Gen
open Idealize.ShloMosaic

/-- The kernel takes the slow way exactly when the count is positive. -/
theorem anyOut_iff (n : BitVec 32) : anyOut n = 1#1 ↔ 0 < n.toInt := by
  have hb : ∀ b : BitVec 1, Scalar.cmpi .ne (Scalar.extui b : BitVec 32) 0#32 = 1#1 ↔ b = 1#1 := by decide
  unfold anyOut
  rw [hb, WordCmp.scalar_cmpi_eq, WordCmp.cmpi_sgt_eq, WordCmp.ofBool_decide_eq_one_iff]
  rfl

section Block

variable {ids : IVec S50000 32} (h : ∀ i, 0 ≤ (ids i).toInt) (t : Fin 10) {b : Vec Ideal S1x1x5000 .i32} (hb : ∀ k, b (ix3 0 0 k) = idAt ids t k)
include h hb

/-- The sums with the window added. -/
theorem winSu_at (w : FVec Ideal S5000x256 .bf16) (s : Vec Ideal S512x256 .f32) (r : Fin 512) (d : Fin 256) :
    winSu w b (bases ids (ix1 t)) s (ix2 r d)
      = s (ix2 r d) + ∑ k, if (idAt ids t k).toNat = r.val ∧ (idAt ids t k).toNat < (bases ids (ix1 t)).toNat + 64 then w (ix2 k d) else 0 := by
  have hc : k0_chk1 (bases ids (ix1 t)) := chk_of _ (bases_dvd h t) (bases_le h t)
  unfold winSu
  rw [dif_pos hc]
  refine (put_at s (bases ids (ix1 t)).toNat _ r d).trans ?_
  rw [← near_sum h t (fun k => w (ix2 k d)) (s (ix2 r d)) r]
  split
  · rename_i hr
    rw [pay21_at]
    refine congr (congrArg _ (window_at s _ 0 _ _ d r d (by show r.val = (bases ids (ix1 t)).toNat + (r.val - (bases ids (ix1 t)).toNat); omega) (by omega))) ?_
    exact Finset.sum_congr rfl fun k _ => by rw [hb]
  · rfl

/-- The counts with the window added. -/
theorem winCnt_at (s : Vec Ideal S512x128 .f32) (r : Fin 512) (d : Fin 128) :
    winCnt b (bases ids (ix1 t)) s (ix2 r d)
      = s (ix2 r d) + ∑ k, if (idAt ids t k).toNat = r.val ∧ (idAt ids t k).toNat < (bases ids (ix1 t)).toNat + 64 then (1 : EReal) else 0 := by
  have hc : k0_chk1 (bases ids (ix1 t)) := chk_of _ (bases_dvd h t) (bases_le h t)
  unfold winCnt
  rw [dif_pos hc]
  refine (put_at s (bases ids (ix1 t)).toNat _ r d).trans ?_
  rw [← near_sum h t (fun _ => 1) (s (ix2 r d)) r]
  split
  · rename_i hr
    rw [pay22_at]
    refine congr (congrArg _ (window_at s _ 0 _ _ d r d (by show r.val = (bases ids (ix1 t)).toNat + (r.val - (bases ids (ix1 t)).toNat); omega) (by omega))) ?_
    exact Finset.sum_congr rfl fun k _ => by rw [hb]
  · rfl

/-- The sums after the block. -/
theorem stepSu_at (w : FVec Ideal S5000x256 .bf16) (s : Vec Ideal S512x256 .f32) (r : Fin 512) (d : Fin 256) :
    stepSu w b (bases ids (ix1 t)) (outs ids (ix1 t)) s (ix2 r d) = s (ix2 r d) + ∑ k, if (idAt ids t k).toNat = r.val then w (ix2 k d) else 0 := by
  unfold stepSu
  split
  · rw [pay24_at, winSu_at h t hb]
    simp only [hb]
    exact far_sum h t (fun k => w (ix2 k d)) _ r
  · rename_i hn
    rw [anyOut_iff, outs_pos h t] at hn
    rw [winSu_at h t hb]
    exact near_all t (fun k => w (ix2 k d)) _ r hn

/-- The counts after the block. -/
theorem stepCnt_at (s : Vec Ideal S512x128 .f32) (r : Fin 512) (d : Fin 128) :
    stepCnt b (bases ids (ix1 t)) (outs ids (ix1 t)) s (ix2 r d) = s (ix2 r d) + ∑ k, if (idAt ids t k).toNat = r.val then (1 : EReal) else 0 := by
  unfold stepCnt
  split
  · rw [pay25_at, winCnt_at h t hb]
    simp only [hb]
    exact far_sum h t (fun _ => 1) _ r
  · rename_i hn
    rw [anyOut_iff, outs_pos h t] at hn
    rw [winCnt_at h t hb]
    exact near_all t (fun _ => 1) _ r hn

end Block

/-- What grows by a term at each of ten steps ends as the sum of the terms. -/
theorem ten_steps (f : ℕ → EReal) (g : Fin 10 → EReal) (h0 : f 0 = 0) (hs : ∀ t : Fin 10, f (t.val + 1) = f t.val + g t) : f 10 = ∑ t, g t := by
  have hn : ∀ n, n ≤ 10 → f n = ∑ i ∈ Finset.range n, if h : i < 10 then g ⟨i, h⟩ else 0 := by
    intro n
    induction n with
    | zero => intro _; simpa using h0
    | succ n ih =>
      intro hle
      rw [Finset.sum_range_succ, ← ih (by omega), dif_pos (by omega)]
      exact hs ⟨n, by omega⟩
  rw [hn 10 le_rfl, Finset.sum_range]
  exact Finset.sum_congr rfl fun t _ => dif_pos t.isLt

/-- Ten blocks of 5000 are the 50000 rows. -/
theorem sum_blocks (f : Fin 50000 → EReal) : ∑ t : Fin 10, ∑ k : Fin 5000, f ⟨t.val * 5000 + k.val, by omega⟩ = ∑ n, f n := by
  rw [← Fintype.sum_prod_type']
  refine Fintype.sum_equiv (finProdFinEquiv (m := 10) (n := 5000)) _ _ fun p => congrArg f (Fin.ext ?_)
  show p.1.val * 5000 + p.2.val = p.2.val + 5000 * p.1.val
  omega

section Fold

variable {ids : IVec S50000 32} (h : ∀ i, 0 ≤ (ids i).toInt) {blk : Fin grid0.N → Vec Ideal S1x1x5000 .i32} (hb : ∀ t k, blk t (ix3 0 0 k) = idAt ids (blockOf t) k)
  {base out : Fin grid0.N → BitVec 32} (hbase : ∀ t, base t = bases ids (ix1 (blockOf t))) (hout : ∀ t, out t = outs ids (ix1 (blockOf t)))
include h hb hbase hout

/-- After the ten blocks a segment holds the sum of its rows. -/
theorem sums_at (rows : Fin grid0.N → FVec Ideal S5000x256 .bf16) (d : Fin 256) (w : Fin 50000 → EReal)
    (hw : ∀ t k, rows t (ix2 k d) = w ⟨(blockOf t).val * 5000 + k.val, by omega⟩) (r : Fin 512) :
    sums rows blk base out 10 (ix2 r d) = segment (fun n => ids (ix1 n)) w r.val := by
  refine (ten_steps (fun n => sums rows blk base out n (ix2 r d)) _ (pay7_at r d) fun t => ?_).trans
    (sum_blocks fun n => if (ids (ix1 n)).toNat = r.val then w n else 0)
  have ht : t.val < grid0.N := t.isLt
  show sums rows blk base out (t.val + 1) (ix2 r d) = _
  have e := sums_succ (⟨t.val, ht⟩ : Fin grid0.N) rows blk base out
  refine (congrFun e (ix2 r d)).trans ?_
  rw [hbase, hout]
  refine (stepSu_at h t (hb ⟨t.val, ht⟩) _ _ r d).trans ?_
  exact congrArg (_ + ·) (Finset.sum_congr rfl fun k _ => by rw [hw]; rfl)

/-- After the ten blocks a segment holds the number of its rows. -/
theorem cnts_at (d : Fin 128) (r : Fin 512) : cnts blk base out 10 (ix2 r d) = segment (fun n => ids (ix1 n)) (fun _ => 1) r.val := by
  refine (ten_steps (fun n => cnts blk base out n (ix2 r d)) _ (pay8_at r d) fun t => ?_).trans
    (sum_blocks fun n => if (ids (ix1 n)).toNat = r.val then 1 else 0)
  have ht : t.val < grid0.N := t.isLt
  show cnts blk base out (t.val + 1) (ix2 r d) = _
  have e := cnts_succ (⟨t.val, ht⟩ : Fin grid0.N) blk base out
  refine (congrFun e (ix2 r d)).trans ?_
  rw [hbase, hout]
  exact stepCnt_at h t (hb ⟨t.val, ht⟩) _ r d

end Fold

end Cert.Proof

end
-- ==== Proof.Inputs.lean ====
/-
  What the windows hold, as values of the arrays the call begins with: a window whose block is its whole array holds the array, a window
  that moves along the array holds its block.
-/
module

public import proofs.«01_k».proof.Proof.Launch
public import Idealize.ShloMosaic.Lib.Pipeline.ValueKit

@[expose] public section

noncomputable section

namespace Cert.Proof

open Cert.KernelIdeal Cert.KernelIdeal.Gen
open Idealize.ShloMosaic
open Idealize.ShloMosaic.TcCoe
open Idealize.SL Idealize.SL.Sem

variable {F : FTy → Type} [FloatOps F]

variable (a : (pcfg0 (F := F)).Adm) (V : Entry (F := F)) (c : Dev nD)

/-- What is fetched at every point alike is held at every point. -/
theorem held_const (w : Fin (cfg0 a).W) (X : ((cfg0 a).win w).block.Idx → Elt F ((cfg0 a).win w).elt)
    (hX : ∀ t : Fin (cfg0 a).N, ((cfg0 a).win w).fill ((cfg0 a).grid.coords t) (fun _ => Classical.arbitrary _) ((((cfg0 a).win w).blk t).view.read (Elt F) (arrs a V c w)) = X)
    (t : Fin grid0.N) : held a V c w t = X := by
  obtain ⟨n, hn⟩ := t
  unfold held
  induction n with
  | zero => exact hX ⟨0, hn⟩
  | succ n ih =>
    by_cases hf : ((cfg0 a).win w).fetch ⟨n + 1, hn⟩ = true
    · exact (Pipeline.heldIn_of_fetch _ w ⟨n + 1, hn⟩ hf).trans (hX _)
    · exact (Pipeline.heldIn_of_not_fetch _ w n hn (by simpa using hf)).trans (ih (Nat.lt_of_succ_lt hn))

theorem whole_at {i s n : ℕ} (h : i = 0) : i * s + n = n := by subst h; omega

theorem in4_eq (t : Fin grid0.N) : in4 a V c t = V c main_call0_v30 := by
  refine held_const a V c 4 (V c main_call0_v30) (fun t => ?_) t
  funext j
  show V c main_call0_v30 _ = _
  congr 1
  funext b
  apply Fin.ext
  fin_cases b <;> blk_simp
  · first | exact whole_at rfl | rfl
  · first | exact whole_at rfl | rfl

theorem in5_eq (t : Fin grid0.N) : in5 a V c t = V c main_call0_v31 := by
  refine held_const a V c 5 (V c main_call0_v31) (fun t => ?_) t
  funext j
  show V c main_call0_v31 _ = _
  congr 1
  funext b
  apply Fin.ext
  fin_cases b <;> blk_simp
  · first | exact whole_at rfl | rfl
  · first | exact whole_at rfl | rfl

theorem in6_eq (t : Fin grid0.N) : in6 a V c t = V c main_call0_v32 := by
  refine held_const a V c 6 (V c main_call0_v32) (fun t => ?_) t
  funext j
  show V c main_call0_v32 _ = _
  congr 1
  funext b
  apply Fin.ext
  fin_cases b <;> blk_simp
  · first | exact whole_at rfl | rfl
  · first | exact whole_at rfl | rfl

theorem in7_eq (t : Fin grid0.N) : in7 a V c t = V c main_call0_v33 := by
  refine held_const a V c 7 (V c main_call0_v33) (fun t => ?_) t
  funext j
  show V c main_call0_v33 _ = _
  congr 1
  funext b
  apply Fin.ext
  fin_cases b <;> blk_simp
  · first | exact whole_at rfl | rfl
  · first | exact whole_at rfl | rfl

theorem in8_eq (t : Fin grid0.N) : in8 a V c t = V c main_call0_v34 := by
  refine held_const a V c 8 (V c main_call0_v34) (fun t => ?_) t
  funext j
  show V c main_call0_v34 _ = _
  congr 1
  funext b
  apply Fin.ext
  fin_cases b <;> blk_simp
  · first | exact whole_at rfl | rfl
  · first | exact whole_at rfl | rfl

theorem in9_eq (t : Fin grid0.N) : in9 a V c t = V c main_call0_v35 := by
  refine held_const a V c 9 (V c main_call0_v35) (fun t => ?_) t
  funext j
  show V c main_call0_v35 _ = _
  congr 1
  funext b
  apply Fin.ext
  fin_cases b <;> blk_simp
  · first | exact whole_at rfl | rfl
  · first | exact whole_at rfl | rfl

theorem in10_eq (t : Fin grid0.N) : in10 a V c t = V c main_arg10 := by
  refine held_const a V c 10 (V c main_arg10) (fun t => ?_) t
  funext j
  show V c main_arg10 _ = _
  congr 1
  funext b
  apply Fin.ext
  fin_cases b <;> blk_simp
  · first | exact whole_at rfl | rfl
  · first | exact whole_at rfl | rfl

theorem in11_eq (t : Fin grid0.N) : in11 a V c t = V c main_call0_v36 := by
  refine held_const a V c 11 (V c main_call0_v36) (fun t => ?_) t
  funext j
  show V c main_call0_v36 _ = _
  congr 1
  funext b
  apply Fin.ext
  fin_cases b <;> blk_simp
  · first | exact whole_at rfl | rfl
  · first | exact whole_at rfl | rfl

theorem in12_eq (t : Fin grid0.N) : in12 a V c t = V c main_arg12 := by
  refine held_const a V c 12 (V c main_arg12) (fun t => ?_) t
  funext j
  show V c main_arg12 _ = _
  congr 1
  funext b
  apply Fin.ext
  fin_cases b <;> blk_simp
  · first | exact whole_at rfl | rfl
  · first | exact whole_at rfl | rfl

theorem in13_eq (t : Fin grid0.N) : in13 a V c t = V c main_call0_v37 := by
  refine held_const a V c 13 (V c main_call0_v37) (fun t => ?_) t
  funext j
  show V c main_call0_v37 _ = _
  congr 1
  funext b
  apply Fin.ext
  fin_cases b <;> blk_simp
  · first | exact whole_at rfl | rfl
  · first | exact whole_at rfl | rfl

theorem in14_eq (t : Fin grid0.N) : in14 a V c t = V c main_arg14 := by
  refine held_const a V c 14 (V c main_arg14) (fun t => ?_) t
  funext j
  show V c main_arg14 _ = _
  congr 1
  funext b
  apply Fin.ext
  fin_cases b <;> blk_simp
  · first | exact whole_at rfl | rfl
  · first | exact whole_at rfl | rfl

theorem in15_eq (t : Fin grid0.N) : in15 a V c t = V c main_call0_v38 := by
  refine held_const a V c 15 (V c main_call0_v38) (fun t => ?_) t
  funext j
  show V c main_call0_v38 _ = _
  congr 1
  funext b
  apply Fin.ext
  fin_cases b <;> blk_simp
  · first | exact whole_at rfl | rfl
  · first | exact whole_at rfl | rfl

/-- A window whose block number is the grid point is fetched at every point. -/
theorem fetch_moving (w : Fin (cfg0 a).W) (hw : ((cfg0 a).win w).isOut = false) {b : Fin ((cfg0 a).win w).shape.rank}
    (hi : ∀ t : Fin (cfg0 a).N, ((cfg0 a).win w).index t b = t.val) (t : Fin (cfg0 a).N) : ((cfg0 a).win w).fetch t = true := by
  refine (((cfg0 a).win w).fetch_in hw t).2 ?_
  rcases Nat.eq_zero_or_pos t.val with h | h
  · exact Or.inl h
  · refine Or.inr ⟨h, fun e => ?_⟩
    have e := congrFun e b
    rw [hi, hi] at e
    simp only at e
    omega

theorem index0 (t : Fin grid0.N) : ((cfg0 a).win 0).index t (0 : Fin 2) = t.val :=
  (by decide +kernel : ∀ t : Fin grid0.N, cc0_transform_0 (grid0.coords t) 0 = t.val) t

theorem index1 (t : Fin grid0.N) : ((cfg0 a).win 1).index t (0 : Fin 3) = t.val :=
  (by decide +kernel : ∀ t : Fin grid0.N, cc0_transform_1 (grid0.coords t) 0 = t.val) t

theorem index2 (t : Fin grid0.N) : ((cfg0 a).win 2).index t (0 : Fin 2) = t.val :=
  (by decide +kernel : ∀ t : Fin grid0.N, cc0_transform_2 (grid0.coords t) 0 = t.val) t

theorem index3 (t : Fin grid0.N) : ((cfg0 a).win 3).index t (0 : Fin 3) = t.val :=
  (by decide +kernel : ∀ t : Fin grid0.N, cc0_transform_3 (grid0.coords t) 0 = t.val) t

theorem in0_at (t : Fin grid0.N) (k : Fin 5000) (d : Fin 256) (r : Fin 50000) (hr : r.val = t.val * 5000 + k.val) :
    in0 a V c t (ix2 k d) = (V c main_arg0 : FVec F S50000x256 .f32) (ix2 r d) := by
  refine (congrFun (Pipeline.heldIn_of_fetch (arrs a V c) 0 t (fetch_moving a 0 rfl (index0 a) t)) _).trans ?_
  show V c main_arg0 _ = _
  congr 1
  funext b
  apply Fin.ext
  fin_cases b <;> blk_simp
  · exact (congrArg (· * 5000 + k.val) (index0 a t)).trans hr.symm
  · first | exact whole_at rfl | rfl

theorem in2_at (t : Fin grid0.N) (k : Fin 5000) (d : Fin 256) (r : Fin 50000) (hr : r.val = t.val * 5000 + k.val) :
    in2 a V c t (ix2 k d) = (V c main_arg2 : FVec F S50000x256 .f32) (ix2 r d) := by
  refine (congrFun (Pipeline.heldIn_of_fetch (arrs a V c) 2 t (fetch_moving a 2 rfl (index2 a) t)) _).trans ?_
  show V c main_arg2 _ = _
  congr 1
  funext b
  apply Fin.ext
  fin_cases b <;> blk_simp
  · exact (congrArg (· * 5000 + k.val) (index2 a t)).trans hr.symm
  · first | exact whole_at rfl | rfl

theorem in1_at (t : Fin grid0.N) (k : Fin 5000) (r : Fin 10) (hr : r.val = t.val) :
    in1 a V c t (ix3 0 0 k) = (V c main_call0_v0 : IVec S10x1x5000 32) (ix3 r 0 k) := by
  refine (congrFun (Pipeline.heldIn_of_fetch (arrs a V c) 1 t (fetch_moving a 1 rfl (index1 a) t)) _).trans ?_
  show V c main_call0_v0 _ = _
  congr 1
  funext b
  apply Fin.ext
  fin_cases b <;> blk_simp
  · exact (index1 a t).trans hr.symm
  · first | exact whole_at rfl | rfl
  · first | exact whole_at rfl | rfl

theorem in3_at (t : Fin grid0.N) (k : Fin 5000) (r : Fin 10) (hr : r.val = t.val) :
    in3 a V c t (ix3 0 0 k) = (V c main_call0_v1 : IVec S10x1x5000 32) (ix3 r 0 k) := by
  refine (congrFun (Pipeline.heldIn_of_fetch (arrs a V c) 3 t (fetch_moving a 3 rfl (index3 a) t)) _).trans ?_
  show V c main_call0_v1 _ = _
  congr 1
  funext b
  apply Fin.ext
  fin_cases b <;> blk_simp
  · exact (index3 a t).trans hr.symm
  · first | exact whole_at rfl | rfl
  · first | exact whole_at rfl | rfl

end Cert.Proof

end
-- ==== Proof.Scatter.lean ====
/-
  The reference's scatter of rows into segments, read at an element: the sum of the rows whose id is the segment.
-/
module

public import proofs.«01_k».proof.Proof.Spec
public import proofs.«01_k».proof.Proof.Gen.ReferenceIdeal
public import Idealize.ShloMosaic.Lib.Pointwise
public import Idealize.ShloMosaic.Lib.Routing.OpsPair

@[expose] public section

noncomputable section

namespace Cert.Proof

open Cert.ReferenceIdeal Cert.ReferenceIdeal.Gen
open Idealize.ShloMosaic

/-- A signed word that is not negative is its unsigned value. -/
theorem toInt_eq_natCast (w : BitVec 32) (h : 0 ≤ w.toInt) (b : ℕ) : w.toInt = (b : Int) ↔ w.toNat = b := by
  have := BitVec.toInt_eq_toNat_cond w
  have := w.isLt
  split at * <;> omega

/-- A scatter that adds, at an element: what was there and the updates that land there. -/
theorem scatter_at {s si su : Shape} (d : ScatterDims s si su) (x : FVec Ideal s .f32) (idx : IVec si 32) (upd : FVec Ideal su .f32) (i : s.Idx) :
    Host.scatterAdd d x idx upd i = x i + ∑ j, if d.resultIdx? j idx = some i then upd j else 0 := by
  rw [← Finset.sum_filter]
  rfl

section Rows

variable (idx : IVec S50000x1 32)

theorem lands_rows (n : Fin 50000) (d : Fin 256) (r : Fin 512) (c : Fin 256) :
    scatter_S512x256_S50000x1_S50000x256_1_0_0_1.resultIdx? (ix2 n d) idx = some (ix2 r c) ↔ (idx (ix2 n 0)).toInt = r.val ∧ d = c := by
  rw [Routing.resultIdx?_eq_some]
  have e0 : scatter_S512x256_S50000x1_S50000x256_1_0_0_1.start (ix2 n d) idx 0 = (idx (ix2 n 0)).toInt := by
    unfold ScatterDims.start
    rw [dif_pos (by decide)]
    congr 2
    funext b
    fin_cases b <;> rfl
  have e1 : scatter_S512x256_S50000x1_S50000x256_1_0_0_1.start (ix2 n d) idx 1 = 0 := by
    unfold ScatterDims.start
    rw [dif_neg (by decide)]
  have w0 : scatter_S512x256_S50000x1_S50000x256_1_0_0_1.window (ix2 n d) 0 = 0 := by
    unfold ScatterDims.window
    rw [dif_neg (by decide)]
  have w1 : scatter_S512x256_S50000x1_S50000x256_1_0_0_1.window (ix2 n d) 1 = d.val := by
    unfold ScatterDims.window
    rw [dif_pos (by decide)]
    rfl
  constructor
  · intro h
    have h0 := h 0
    have h1 := h 1
    rw [e0, w0] at h0
    rw [e1, w1] at h1
    simp only [ix2_0, ix2_1] at h0 h1
    exact ⟨by omega, Fin.ext (by omega)⟩
  · rintro ⟨h, rfl⟩ a
    fin_cases a
    · show scatter_S512x256_S50000x1_S50000x256_1_0_0_1.start (ix2 n d) idx 0 + (scatter_S512x256_S50000x1_S50000x256_1_0_0_1.window (ix2 n d) 0 : Int) = (r.val : Int)
      rw [e0, w0]; omega
    · show scatter_S512x256_S50000x1_S50000x256_1_0_0_1.start (ix2 n d) idx 1 + (scatter_S512x256_S50000x1_S50000x256_1_0_0_1.window (ix2 n d) 1 : Int) = (d.val : Int)
      rw [e1, w1]; omega

theorem scatter_rows (x : FVec Ideal S512x256 .f32) (upd : FVec Ideal S50000x256 .f32) (r : Fin 512) (c : Fin 256) :
    Host.scatterAdd scatter_S512x256_S50000x1_S50000x256_1_0_0_1 x idx upd (ix2 r c)
      = x (ix2 r c) + ∑ n : Fin 50000, if (idx (ix2 n 0)).toInt = r.val then upd (ix2 n c) else 0 := by
  rw [scatter_at]
  refine congrArg (x (ix2 r c) + ·) ?_
  rw [sum_idx2]
  refine Finset.sum_congr rfl fun n _ => ?_
  simp only [lands_rows]
  by_cases h : (idx (ix2 n 0)).toInt = r.val
  · simp [h]
  · simp [h]

theorem lands_ones (n : Fin 50000) (d : Fin 1) (r : Fin 512) :
    scatter_S512x1_S50000x1_S50000x1_1_0_0_1.resultIdx? (ix2 n d) idx = some (ix2 r 0) ↔ (idx (ix2 n 0)).toInt = r.val := by
  rw [Routing.resultIdx?_eq_some]
  have e0 : scatter_S512x1_S50000x1_S50000x1_1_0_0_1.start (ix2 n d) idx 0 = (idx (ix2 n 0)).toInt := by
    unfold ScatterDims.start
    rw [dif_pos (by decide)]
    congr 2
    funext b
    fin_cases b <;> rfl
  have e1 : scatter_S512x1_S50000x1_S50000x1_1_0_0_1.start (ix2 n d) idx 1 = 0 := by
    unfold ScatterDims.start
    rw [dif_neg (by decide)]
  have w0 : scatter_S512x1_S50000x1_S50000x1_1_0_0_1.window (ix2 n d) 0 = 0 := by
    unfold ScatterDims.window
    rw [dif_neg (by decide)]
  have w1 : scatter_S512x1_S50000x1_S50000x1_1_0_0_1.window (ix2 n d) 1 = d.val := by
    unfold ScatterDims.window
    rw [dif_pos (by decide)]
    rfl
  constructor
  · intro h
    have h0 := h 0
    rw [e0, w0] at h0
    simp only [ix2_0] at h0
    omega
  · intro h a
    fin_cases a
    · show scatter_S512x1_S50000x1_S50000x1_1_0_0_1.start (ix2 n d) idx 0 + (scatter_S512x1_S50000x1_S50000x1_1_0_0_1.window (ix2 n d) 0 : Int) = (r.val : Int)
      rw [e0, w0]; omega
    · show scatter_S512x1_S50000x1_S50000x1_1_0_0_1.start (ix2 n d) idx 1 + (scatter_S512x1_S50000x1_S50000x1_1_0_0_1.window (ix2 n d) 1 : Int) = 0
      rw [e1, w1]; omega

theorem scatter_ones (x : FVec Ideal S512x1 .f32) (upd : FVec Ideal S50000x1 .f32) (r : Fin 512) :
    Host.scatterAdd scatter_S512x1_S50000x1_S50000x1_1_0_0_1 x idx upd (ix2 r 0)
      = x (ix2 r 0) + ∑ n : Fin 50000, if (idx (ix2 n 0)).toInt = r.val then upd (ix2 n 0) else 0 := by
  rw [scatter_at]
  refine congrArg (x (ix2 r 0) + ·) ?_
  rw [sum_idx2]
  refine Finset.sum_congr rfl fun n _ => ?_
  simp only [lands_ones]
  exact Fin.sum_univ_one _

end Rows

end Cert.Proof

end
-- ==== Proof.RefValue.lean ====
/-
  The reference's result at an element, in the plain mathematics.
-/
module

public import proofs.«01_k».proof.Proof.Scatter
public import proofs.«01_k».proof.Proof.Gen.ReferenceIdeal.Run

@[expose] public section

noncomputable section

namespace Cert.Proof

open Cert.ReferenceIdeal Cert.ReferenceIdeal.Gen
open Idealize.ShloMosaic Idealize.ShloMosaic.TcCoe Idealize.SL.Sem

/-- The arguments as plain functions. -/
def weightsOf (a4 : FVec Ideal S256x256 .f32) (a5 : FVec Ideal S256 .f32) (a6 : FVec Ideal S256x256 .f32) (a7 : FVec Ideal S256 .f32) (a8 : FVec Ideal S256x1 .f32)
    (a9 : FVec Ideal S1 .f32) (a10 : FVec Ideal S512x256 .f32) (a11 : FVec Ideal S256 .f32) (a12 : FVec Ideal S256x256 .f32) (a13 : FVec Ideal S256 .f32)
    (a14 : FVec Ideal S256x128 .f32) (a15 : FVec Ideal S128 .f32) : Weights where
  wa0 i j := a4 (ix2 i j)
  ba0 j := a5 (ix1 j)
  wa1 i j := a6 (ix2 i j)
  ba1 j := a7 (ix1 j)
  wa2 j := a8 (ix2 j 0)
  ba2 := a9 (ix1 0)
  wf0 i j := a10 (ix2 i j)
  bf0 j := a11 (ix1 j)
  wf1 i j := a12 (ix2 i j)
  bf1 j := a13 (ix1 j)
  wf2 i j := a14 (ix2 i j)
  bf2 j := a15 (ix1 j)

set_option maxHeartbeats 0 in
/-- The reference's result at row `r` and column `d`. -/
theorem ref_at (m : (ℓ : Loc nD τ sig) → Buf (Elt Ideal) ℓ) (c : Dev nD) (r : Fin 512) (d : Fin 128)
    (h1 : ∀ i, 0 ≤ ((m (c.tc.loc main_arg1) : IVec S50000 32) i).toInt) (h3 : ∀ i, 0 ≤ ((m (c.tc.loc main_arg3) : IVec S50000 32) i).toInt) :
    (Cert.ReferenceIdeal.Value.res_main_v68 m c : FVec Ideal S512x128 .f32) (ix2 r d)
      = answer (weightsOf (m (c.tc.loc main_arg4)) (m (c.tc.loc main_arg5)) (m (c.tc.loc main_arg6)) (m (c.tc.loc main_arg7)) (m (c.tc.loc main_arg8))
          (m (c.tc.loc main_arg9)) (m (c.tc.loc main_arg10)) (m (c.tc.loc main_arg11)) (m (c.tc.loc main_arg12)) (m (c.tc.loc main_arg13))
          (m (c.tc.loc main_arg14)) (m (c.tc.loc main_arg15)))
        (pooled (weightsOf (m (c.tc.loc main_arg4)) (m (c.tc.loc main_arg5)) (m (c.tc.loc main_arg6)) (m (c.tc.loc main_arg7)) (m (c.tc.loc main_arg8))
          (m (c.tc.loc main_arg9)) (m (c.tc.loc main_arg10)) (m (c.tc.loc main_arg11)) (m (c.tc.loc main_arg12)) (m (c.tc.loc main_arg13))
          (m (c.tc.loc main_arg14)) (m (c.tc.loc main_arg15))) (fun n e => (m (c.tc.loc main_arg0) : FVec Ideal S50000x256 .f32) (ix2 n e))
            (fun n => (m (c.tc.loc main_arg1) : IVec S50000 32) (ix1 n)) r.val)
        (pooled (weightsOf (m (c.tc.loc main_arg4)) (m (c.tc.loc main_arg5)) (m (c.tc.loc main_arg6)) (m (c.tc.loc main_arg7)) (m (c.tc.loc main_arg8))
          (m (c.tc.loc main_arg9)) (m (c.tc.loc main_arg10)) (m (c.tc.loc main_arg11)) (m (c.tc.loc main_arg12)) (m (c.tc.loc main_arg13))
          (m (c.tc.loc main_arg14)) (m (c.tc.loc main_arg15))) (fun n e => (m (c.tc.loc main_arg2) : FVec Ideal S50000x256 .f32) (ix2 n e))
            (fun n => (m (c.tc.loc main_arg3) : IVec S50000 32) (ix1 n)) r.val) d := by
  unfold Cert.ReferenceIdeal.Value.res_main_v68
  generalize m (c.tc.loc main_arg0) = x0 at *
  generalize m (c.tc.loc main_arg1) = x1 at *
  generalize m (c.tc.loc main_arg2) = x2 at *
  generalize m (c.tc.loc main_arg3) = x3 at *
  generalize m (c.tc.loc main_arg4) = x4 at *
  generalize m (c.tc.loc main_arg5) = x5 at *
  generalize m (c.tc.loc main_arg6) = x6 at *
  generalize m (c.tc.loc main_arg7) = x7 at *
  generalize m (c.tc.loc main_arg8) = x8 at *
  generalize m (c.tc.loc main_arg9) = x9 at *
  generalize m (c.tc.loc main_arg10) = x10 at *
  generalize m (c.tc.loc main_arg11) = x11 at *
  generalize m (c.tc.loc main_arg12) = x12 at *
  generalize m (c.tc.loc main_arg13) = x13 at *
  generalize m (c.tc.loc main_arg14) = x14 at *
  generalize m (c.tc.loc main_arg15) = x15 at *
  pointwise
  simp only [scatter_rows, scatter_ones]
  pointwise
  simp only [toInt_eq_natCast _ (h1 _), toInt_eq_natCast _ (h3 _)]
  simp only [answer, hidden, layer, joined, pooled, segment, weighted, attention, weightsOf]

end Cert.Proof

end
-- ==== Proof.KerValue.lean ====
/-
  The kernel's result at an element, in the plain mathematics.
-/
module

public import proofs.«01_k».proof.Proof.KerReads
public import proofs.«01_k».proof.Proof.Step
public import proofs.«01_k».proof.Proof.Inputs
public import proofs.«01_k».proof.Proof.Frame
public import proofs.«01_k».proof.Proof.RefValue

@[expose] public section

noncomputable section

namespace Cert.Proof

open Cert.KernelIdeal Cert.KernelIdeal.Gen
open Idealize.ShloMosaic Idealize.ShloMosaic.TcCoe Idealize.SL.Sem

/-- The weighted row, its matrices read one by one. -/
theorem pay17_eq (W : Weights) (x : Fin 256 → EReal) (v3 v5 : Vec Ideal S256x256 .bf16) (v7 v9 v11 : Vec Ideal S1x256 .f32) (v13 : Vec Ideal S1x1 .f32)
    (v15 : Vec Ideal S5000x256 .f32) (k : Fin 5000) (d : Fin 256)
    (h3 : ∀ i j, v3 (ix2 i j) = W.wa0 i j) (h5 : ∀ i j, v5 (ix2 i j) = W.wa1 i j) (h7 : ∀ j, v7 (ix2 0 j) = W.wa2 j) (h9 : ∀ j, v9 (ix2 0 j) = W.ba0 j)
    (h11 : ∀ j, v11 (ix2 0 j) = W.ba1 j) (h13 : v13 (ix2 0 0) = W.ba2) (h15 : ∀ j, v15 (ix2 k j) = x j) :
    k0_pay17 v3 v5 v7 v9 v11 v13 v15 (ix2 k d) = weighted W x d := by
  rw [pay17_at]
  simp only [h3, h5, h7, h9, h11, h13, h15]
  rfl

/-- The last layers, their operands read one by one. -/
theorem last_eq (W : Weights) (n1 n2 : Fin 256 → EReal) (c1 c2 : EReal) (v140 v141 : Vec Ideal S512x1 .f32) (v142 v147 : Vec Ideal S512x256 .f32)
    (v152 v154 : Vec Ideal S256x256 .f32) (v157 : Vec Ideal S1x256 .f32)
    (v163 : Vec Ideal S256x256 .f32) (v165 : Vec Ideal S1x256 .f32) (v2 : Vec Ideal S256x128 .f32) (v3 : Vec Ideal S1x128 .f32) (r : Fin 512) (d : Fin 128)
    (h140 : v140 (ix2 r 0) = c1) (h141 : v141 (ix2 r 0) = c2) (h142 : ∀ k, v142 (ix2 r k) = n1 k) (h147 : ∀ k, v147 (ix2 r k) = n2 k)
    (h152 : ∀ (k j : Fin 256), v152 (ix2 k j) = W.wf0 ⟨k.val, by omega⟩ j) (h154 : ∀ (k j : Fin 256), v154 (ix2 k j) = W.wf0 ⟨256 + k.val, by omega⟩ j)
    (h157 : ∀ j, v157 (ix2 0 j) = W.bf0 j) (h163 : ∀ i j, v163 (ix2 i j) = W.wf1 i j) (h165 : ∀ j, v165 (ix2 0 j) = W.bf1 j)
    (h2 : ∀ i j, v2 (ix2 i j) = W.wf2 i j) (h3 : ∀ j, v3 (ix2 0 j) = W.bf2 j) :
    k0_pay5 (F := Ideal) (k0_pay6 (F := Ideal) v140 v141 v142 v147 v152 v154 v157 v163 v165) v2 (constant S512x128 .f32 0x00000000#32) v3 (ix2 r d)
      = answer W (fun k => Ideal.div (n1 k) (max c1 1)) (fun k => Ideal.div (n2 k) (max c2 1)) d := by
  rw [last_at]
  simp only [h140, h141, h142, h147, h152, h154, h157, h163, h165, h2, h3]
  rfl

variable (m : (ℓ : Loc nD τ sig) → Buf (Elt Ideal) ℓ)

/-- The weights of the kernel's arguments. -/
def weightsIn : Weights :=
  weightsOf (argOf m main_arg4) (argOf m main_arg5) (argOf m main_arg6) (argOf m main_arg7) (argOf m main_arg8) (argOf m main_arg9)
    (argOf m main_arg10) (argOf m main_arg11) (argOf m main_arg12) (argOf m main_arg13) (argOf m main_arg14) (argOf m main_arg15)

/-- A node's features. -/
def nodes1 (n : Fin 50000) (e : Fin 256) : EReal := (argOf m main_arg0 : FVec Ideal S50000x256 .f32) (ix2 n e)
def nodes2 (n : Fin 50000) (e : Fin 256) : EReal := (argOf m main_arg2 : FVec Ideal S50000x256 .f32) (ix2 n e)

theorem rows1_at (t : Fin grid0.N) (k : Fin 5000) (d : Fin 256) :
    rows1 (tabsOf m) (entryOf m) 0 t (ix2 k d) = weighted (weightsIn m) (nodes1 m ⟨(blockOf t).val * 5000 + k.val, by omega⟩) d := by
  unfold rows1
  rw [in4_eq, in5_eq, in6_eq, in7_eq, in8_eq, in9_eq]
  refine pay17_eq (weightsIn m) _ _ _ _ _ _ _ _ k d (read_v30 m) (read_v32 m) (read_v34 m) (read_v31 m) (read_v33 m) (read_v35 m) fun j => ?_
  rw [in0_at _ _ _ t k j ⟨(blockOf t).val * 5000 + k.val, by omega⟩ rfl, entry_arg m 0 main_arg0 (by decide)]
  rfl

theorem rows2_at (t : Fin grid0.N) (k : Fin 5000) (d : Fin 256) :
    rows2 (tabsOf m) (entryOf m) 0 t (ix2 k d) = weighted (weightsIn m) (nodes2 m ⟨(blockOf t).val * 5000 + k.val, by omega⟩) d := by
  unfold rows2
  rw [in4_eq, in5_eq, in6_eq, in7_eq, in8_eq, in9_eq]
  refine pay17_eq (weightsIn m) _ _ _ _ _ _ _ _ k d (read_v30 m) (read_v32 m) (read_v34 m) (read_v31 m) (read_v33 m) (read_v35 m) fun j => ?_
  rw [in2_at _ _ _ t k j ⟨(blockOf t).val * 5000 + k.val, by omega⟩ rfl, entry_arg m 0 main_arg2 (by decide)]
  rfl

theorem ids1_at (t : Fin grid0.N) (k : Fin 5000) : in1 (tabsOf m) (entryOf m) 0 t (ix3 0 0 k) = idAt (argOf m main_arg1) (blockOf t) k :=
  (in1_at _ _ _ t k (blockOf t) rfl).trans (read_v0 m (blockOf t) k)

theorem ids2_at (t : Fin grid0.N) (k : Fin 5000) : in3 (tabsOf m) (entryOf m) 0 t (ix3 0 0 k) = idAt (argOf m main_arg3) (blockOf t) k :=
  (in3_at _ _ _ t k (blockOf t) rfl).trans (read_v1 m (blockOf t) k)

theorem word1 (t : Fin grid0.N) : wordsOf (tab1 (tabsOf m)) t = bases (argOf m main_arg1) (ix1 (blockOf t)) := by rw [wordsOf_eq, tab1_eq]
theorem word2 (t : Fin grid0.N) : wordsOf (tab2 (tabsOf m)) t = outs (argOf m main_arg1) (ix1 (blockOf t)) := by rw [wordsOf_eq, tab2_eq]
theorem word3 (t : Fin grid0.N) : wordsOf (tab3 (tabsOf m)) t = bases (argOf m main_arg3) (ix1 (blockOf t)) := by rw [wordsOf_eq, tab3_eq]
theorem word4 (t : Fin grid0.N) : wordsOf (tab4 (tabsOf m)) t = outs (argOf m main_arg3) (ix1 (blockOf t)) := by rw [wordsOf_eq, tab4_eq]

/-- The kernel's result at row `r` and column `d`. -/
theorem ker_at (h : Nonneg m) (r : Fin 512) (d : Fin 128) :
    result (tabsOf m) (entryOf m) 0 (ix2 r d)
      = answer (weightsIn m) (pooled (weightsIn m) (nodes1 m) (fun n => (argOf m main_arg1 : IVec S50000 32) (ix1 n)) r.val)
          (pooled (weightsIn m) (nodes2 m) (fun n => (argOf m main_arg3 : IVec S50000 32) (ix1 n)) r.val) d := by
  unfold result outVal
  refine last_eq (weightsIn m) _ _ _ _ _ _ _ _ _ _ _ _ _ _ _ r d
    ((window_at _ 0 0 _ r 0 r 0 (by omega) rfl).trans (cnts_at h.1 (ids1_at m) (word1 m) (word2 m) 0 r))
    ((window_at _ 0 0 _ r 0 r 0 (by omega) rfl).trans (cnts_at h.2 (ids2_at m) (word3 m) (word4 m) 0 r))
    (fun k => sums_at h.1 (ids1_at m) (word1 m) (word2 m) _ k (fun n => weighted (weightsIn m) (nodes1 m n) k) (fun t i => rows1_at m t i k) r)
    (fun k => sums_at h.2 (ids2_at m) (word3 m) (word4 m) _ k (fun n => weighted (weightsIn m) (nodes2 m n) k) (fun t i => rows2_at m t i k) r)
    (fun k j => (window_at _ 0 0 _ k j ⟨k.val, by omega⟩ j (by simp) (by simp)).trans ?_)
    (fun k j => (window_at _ 256 0 _ k j ⟨256 + k.val, by omega⟩ j (by simp) (by simp)).trans ?_)
    ?_ ?_ ?_ ?_ ?_
  · rw [in10_eq, entry_arg m 0 main_arg10 (by decide)]; rfl
  · rw [in10_eq, entry_arg m 0 main_arg10 (by decide)]; rfl
  · rw [in11_eq]; exact read_v36 m
  · rw [in12_eq, entry_arg m 0 main_arg12 (by decide)]; exact fun _ _ => rfl
  · rw [in13_eq]; exact read_v37 m
  · rw [in14_eq, entry_arg m 0 main_arg14 (by decide)]; exact fun _ _ => rfl
  · rw [in15_eq]; exact read_v38 m

end Cert.Proof

end
-- ==== Proof.Result.lean ====
/-
  What the result array holds at the end.
-/
module

public import proofs.«01_k».proof.Proof.Frame

@[expose] public section

noncomputable section

namespace Cert.Proof

open Cert.KernelIdeal Cert.KernelIdeal.Gen
open Idealize.ShloMosaic
open Idealize.ShloMosaic.TcCoe
open Idealize.SL Idealize.SL.Sem

variable {F : FTy → Type} [FloatOps F]
variable (m : (ℓ : Loc nD τ sig) → Buf (Elt F) ℓ)

theorem whole16 (a : (pcfg0 (F := F)).Adm) : ((cfg0 a).win 16).WholeAt t0_9 :=
  ⟨rfl, fun t ht => by
    rcases fin_N0 t with rfl | rfl | rfl | rfl | rfl | rfl | rfl | rfl | rfl | rfl
    all_goals first
      | rfl
      | exact absurd (show false = true from ht) Bool.false_ne_true,
    fun b => by fin_cases b <;> exact ⟨rfl, rfl⟩⟩

/-- The result array is the last point's `result`. -/
theorem result_of {r : PUnit × MemSt nD τ sig (Elt F)} (h : Pipeline.RDat.FramePost (cfg0 (tabsOf m)) (rdat (tabsOf m) (entryOf m)) (entryOf m) r) (c : Dev nD) :
    r.2.mem (c.tc.loc main_v0) = result (tabsOf m) (entryOf m) c := by
  obtain ⟨X, hX, e⟩ := Pipeline.RDat.ArrAt.emb_eq_of_wholeAt ((h c).1 16) (whole16 (tabsOf m))
  have hx := Pipeline.Dat.toRRel_leaves (dat (tabsOf m) (entryOf m) c) (fgt := fgt (tabsOf m)) (Rl := left (tabsOf m) (entryOf m) c) (w := 16) rfl hX
  have hx' : X = result (tabsOf m) (entryOf m) c := hx rfl
  funext j
  exact (e j).trans (congrFun hx' j)

end Cert.Proof

end
-- ==== Proof.Value.lean ====
/-
  The kernel's result is the reference's: both are the plain mathematics at every element.
-/
module

public import proofs.«01_k».proof.Defs
public import proofs.«01_k».proof.Proof.KerValue
public import proofs.«01_k».proof.Proof.Result
public import proofs.«01_k».proof.Proof.FrameKernel

@[expose] public section

noncomputable section

namespace Cert.Proof

open Idealize.ShloMosaic Idealize.SL.Sem

/-- An index of a matrix is its row and its column. -/
theorem idx_eq {a b : ℕ} (i : (⟨2, ![a, b]⟩ : Shape).Idx) : i = ix2 (i 0) (i 1) := by
  funext x
  match x with
  | 0 => rfl
  | 1 => rfl

set_option maxHeartbeats 0 in
theorem value : Cert.algebraic_KernelIdeal_ReferenceIdeal := by
  intro m g m' g' hpre hagree
  have hn : Nonneg m := nonneg_ideal m hpre
  refine ⟨fun c => result (tabsOf m) (entryOf m) c, ?_, ?_⟩
  · exact (θ_run Cert.KernelIdeal.defs _ _).mono (fun r hr c => ⟨result_of m hr.1 c, kept_of m hr.1 c⟩) (run_main m g (chk1_of hn) (chk2_of hn))
  · refine (θ_run Cert.ReferenceIdeal.defs _ _).mono (fun r hr c => ⟨(hr c).1.trans ?_, (hr c).2⟩) (Cert.ReferenceIdeal.Value.run (F := Ideal) m' g')
    have hc : c = 0 := Subsingleton.elim _ _
    subst hc
    obtain ⟨h0, h1, h2, h3, h4, h5, h6, h7, h8, h9, h10, h11, h12, h13, h14, h15⟩ := hagree 0
    funext i
    have hi := idx_eq (a := 512) (b := 128) i
    rw [hi]
    refine (ref_at m' 0 (i 0) (i 1) (by rw [h1]; exact hn.1) (by rw [h3]; exact hn.2)).trans (Eq.trans ?_ (ker_at m hn (i 0) (i 1)).symm)
    rw [h0, h1, h2, h3, h4, h5, h6, h7, h8, h9, h10, h11, h12, h13, h14, h15]
    rfl

end Cert.Proof

end
-- ==== Proof.lean ====
/-
  The claims, put together: the frames of the kernel, of its idealization and of the reference; the kernel and its idealization as one text;
  and the equality of the results over the reals.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_ids_nonnegative
public import proofs.«01_k».proof.Proof.FrameKernel
public import proofs.«01_k».proof.Proof.Transfer
public import proofs.«01_k».proof.Proof.Value

@[expose] public section

noncomputable section

namespace Cert.Proof

/-- Every claim of the certificate. -/
theorem claim : Cert.Claim := ⟨Cert.Kernel.Gen.facts, Cert.KernelIdeal.Gen.facts, Cert.ReferenceIdeal.Gen.facts, Cert.Pre_ids_nonnegative.Gen.facts,
  frame_kernel, frame_ideal, frame_reference, trivial, value⟩

end Cert.Proof

end
